-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_temp_log2e" .f32 0x41E6D4CA#32 ((20 * (Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x64 : Shape := ⟨2, ![1024, 64]⟩
abbrev S1024 : Shape := ⟨1, ![1024]⟩
abbrev S100000x64 : Shape := ⟨2, ![100000, 64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x64 .f32) (main_arg1 : IVec S1024 32) (main_arg2 : FVec F S100000x64 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x64 : Shape := ⟨2, ![1024, 64]⟩
abbrev S1024 : Shape := ⟨1, ![1024]⟩
abbrev S100000x64 : Shape := ⟨2, ![100000, 64]⟩
abbrev S50000x128 : Shape := ⟨2, ![50000, 128]⟩
abbrev S_ : Shape := ⟨0, ![]⟩
abbrev S1024x128 : Shape := ⟨2, ![1024, 128]⟩
abbrev S32 : Shape := ⟨1, ![32]⟩
abbrev S32x128 : Shape := ⟨2, ![32, 128]⟩
abbrev S1024x1 : Shape := ⟨2, ![1024, 1]⟩
abbrev S1x1 : Shape := ⟨2, ![1, 1]⟩
abbrev S4096x64 : Shape := ⟨2, ![4096, 64]⟩
abbrev S1024x4096 : Shape := ⟨2, ![1024, 4096]⟩
abbrev S1x1024x1 : Shape := ⟨3, ![1, 1024, 1]⟩
abbrev S1 : Shape := ⟨1, ![1]⟩
abbrev S1x1x1 : Shape := ⟨3, ![1, 1, 1]⟩

abbrev nBuf : Table → Nat
  | .hbm => 26
  | .local .tc .vmem => 8
  | .local .tc .smem => 1
  | .local .scVector .vmem => 2
  | _ => 0

abbrev bufTy : (tb : Table) → Fin (nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S50000x128, .f32⟩
  | .hbm, ⟨4, _⟩ => ⟨S_, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x128, .f32⟩
  | .hbm, ⟨23, _⟩ => ⟨S1024x1, .i32⟩
  | .hbm, ⟨24, _⟩ => ⟨S1x1, .f32⟩
  | .hbm, ⟨25, _⟩ => ⟨S_, .f32⟩
  | .local .tc .vmem, ⟨0, _⟩ => ⟨S1024x64, .f32⟩
  | .local .tc .vmem, ⟨1, _⟩ => ⟨S1024x128, .f32⟩
  | .local .tc .vmem, ⟨2, _⟩ => ⟨S1024x1, .i32⟩
  | .local .tc .vmem, ⟨3, _⟩ => ⟨S4096x64, .f32⟩
  | .local .tc .vmem, ⟨4, _⟩ => ⟨S4096x64, .f32⟩
  | .local .tc .vmem, ⟨5, _⟩ => ⟨S1024x64, .f32⟩
  | .local .tc .vmem, ⟨6, _⟩ => ⟨S1024x64, .bf16⟩
  | .local .tc .vmem, ⟨7, _⟩ => ⟨S1024x128, .f32⟩
  | .local .tc .smem, ⟨0, _⟩ => ⟨S1x1, .f32⟩
  | .local .scVector .vmem, ⟨0, _⟩ => ⟨S32, .i32⟩
  | .local .scVector .vmem, ⟨1, _⟩ => ⟨S32x128, .f32⟩
  | _, _ => ⟨S1024x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v0_scv : Ref sig .scVector := ⟨.hbm, 3, rfl⟩
abbrev main_v1_scv : Ref sig .scVector := ⟨.hbm, 21, rfl⟩
abbrev main_v2_scv : Ref sig .scVector := ⟨.hbm, 22, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_scratch0 : Ref sig .tc := ⟨.vmem, 5, rfl⟩
abbrev cc1_scratch1 : Ref sig .tc := ⟨.vmem, 6, rfl⟩
abbrev cc1_scratch2 : Ref sig .tc := ⟨.vmem, 7, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem3_1 : DmaSem sig := 7
abbrev cc1_sem4_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r1 : BitVec 32 := 0#32
  ![v2.toNat, 0]
abbrev grid1 : Pipeline.Grid := ⟨1, ![25], ![false]⟩

def k1_cond3 (i : grid1.Coords) : BitVec 1 :=
  let arg0 : BitVec 32 := BitVec.ofNat 32 (i 0).val
  let c24_i32_5 : BitVec 32 := 24#32
  let v10 : BitVec 1 := Scalar.cmpi .eq arg0 c24_i32_5
  let v11 : BitVec 32 := Scalar.extui v10
  let c0_i32_6 : BitVec 32 := 0#32
  let v12 : BitVec 1 := Scalar.cmpi .ne v11 c0_i32_6
  v12

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_temp_log2e" => some ((20 * (Real.log 2)⁻¹ : ℝ) : EReal)
  | "ln2" => some ((Real.log 2 : ℝ) : EReal)
  | _ => none
-- ==== ReferenceIdeal.lean ====
abbrev S1024x64 : Shape := ⟨2, ![1024, 64]⟩
abbrev S1024 : Shape := ⟨1, ![1024]⟩
abbrev S100000x64 : Shape := ⟨2, ![100000, 64]⟩
abbrev S_ : Shape := ⟨0, ![]⟩
abbrev S1024x1 : Shape := ⟨2, ![1024, 1]⟩
abbrev S64x100000 : Shape := ⟨2, ![64, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024, .i32⟩
  | .hbm, ⟨2, _⟩ => ⟨S100000x64, .f32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S64x100000, .f32⟩
  | .hbm, ⟨14, _⟩ => ⟨S1024x100000, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1024x100000, .f32⟩
  | .hbm, ⟨19, _⟩ => ⟨S1024x100000, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .i1⟩
  | .hbm, ⟨26, _⟩ => ⟨S_, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024x1, .i32⟩
  | .hbm, ⟨39, _⟩ => ⟨S_, .i32⟩
  | .hbm, ⟨40, _⟩ => ⟨S1024x1, .i32⟩
  | .hbm, ⟨41, _⟩ => ⟨S1024x1, .i1⟩
  | .hbm, ⟨42, _⟩ => ⟨S_, .i32⟩
  | .hbm, ⟨43, _⟩ => ⟨S1024x1, .i32⟩
  | .hbm, ⟨44, _⟩ => ⟨S1024x1, .i32⟩
  | .hbm, ⟨45, _⟩ => ⟨S1024x1, .i32⟩
  | .hbm, ⟨46, _⟩ => ⟨S1024x1x1, .i32⟩
  | .hbm, ⟨47, _⟩ => ⟨S1, .i32⟩
  | .hbm, ⟨48, _⟩ => ⟨S_, .i32⟩
  | .hbm, ⟨49, _⟩ => ⟨S1024x1x1, .i32⟩
  | .hbm, ⟨50, _⟩ => ⟨S1024x1x1, .i1⟩
  | .hbm, ⟨51, _⟩ => ⟨S1x1x1, .i32⟩
  | .hbm, ⟨52, _⟩ => ⟨S1024x1x1, .i32⟩
  | .hbm, ⟨53, _⟩ => ⟨S1024x1x1, .i1⟩
  | .hbm, ⟨54, _⟩ => ⟨S1024x1x1, .i1⟩
  | .hbm, ⟨55, _⟩ => ⟨S_, .i1⟩
  | .hbm, ⟨56, _⟩ => ⟨S1024x1, .i1⟩
  | .hbm, ⟨57, _⟩ => ⟨S1024x1, .f32⟩
  | .hbm, ⟨58, _⟩ => ⟨S_, .f32⟩
  | .hbm, ⟨59, _⟩ => ⟨S1024x1, .f32⟩
  | .hbm, ⟨60, _⟩ => ⟨S1024x1, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_6 : Ref sig .tc := ⟨.hbm, 63, rfl⟩
abbrev main_v26 : Ref sig .tc := ⟨.hbm, 64, rfl⟩
abbrev main_cst_7 : Ref sig .tc := ⟨.hbm, 65, rfl⟩
abbrev main_v27 : Ref sig .tc := ⟨.hbm, 66, rfl⟩

abbrev nD : Nat := 1
abbrev τ : Topo := Topo.v7x

variable {F : FTy → Type} [FloatOps F]
-- ==== Proof.Setup.lean ====
/-
  The kernel's program as the launch theorem sees it: the labels, the SparseCore configuration, the
  resource algebra (the handshakes' rounds, the staging rounds of the TensorCore's region, the counters
  of the tiles' copies), the buffers by name, and what is computed of them on the host before the call.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.ArrRel
public import Idealize.ShloMosaic.Lib.Tactic
public import proofs.«01_k».proof.Proof.Gen.Kernel
public import proofs.«01_k».proof.Proof.Gen.Kernel.Skeleton
public import proofs.«01_k».proof.Proof.Gen.Kernel.Launch
public import proofs.«01_k».proof.Proof.Gen.Kernel.Points

@[expose] public section

noncomputable section

namespace Cert.Proof.Kern

open Cert.Kernel Cert.Kernel.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the kernels' table: the user's, the one pipeline's. -/
abbrev ΛP [FloatOps F] : Labels := Pipeline.Sig Λ₀ (Fin 1) fun p => (pcfgs (F := F) p).Adm
/-- The SparseCore configuration: one vector call over two SparseCores of sixteen tiles. -/
abbrev K [FloatOps F] : SparseCore.Cfg τ sig (ΛP (F := F)) 1 := sc (F := F)
theorem nSub_K [FloatOps F] : (K (F := F)).nSub 0 = 16 := rfl
theorem nCore_K [FloatOps F] : (K (F := F)).nCore 0 = 2 := rfl
/-- The definitions of the kernels' table, the pipeline's expanded. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' cells are four distinct ones outside every scope, and no shared buffer is in play. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The staging rounds of the TensorCore's region. -/
abbrev UP : Type := UR sig nD τ
/-- Both, beside the counters of the tiles' copies. -/
abbrev UU : Type := (UH × UP) × Counters

local notation "𝕄" => MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

instance EP_lands : (EP (F := F)).LandsIn (upEmb : UEmb _ 𝕄) := by infer_instance
instance EH_lands : (EH (F := F)).LandsIn (upEmb : UEmb _ 𝕄) := by infer_instance

/-! ## The buffers by name -/

/-- The inputs. -/
abbrev xLoc (d : Dev nD) : Loc nD τ sig := (SparseCore.T d).loc main_arg0
/-- The targets. -/
abbrev gLoc (d : Dev nD) : Loc nD τ sig := (SparseCore.T d).loc main_arg1
/-- The features. -/
abbrev fLoc (d : Dev nD) : Loc nD τ sig := (SparseCore.T d).loc main_arg2
/-- The features, two rows to a row of 128. -/
abbrev tLoc (d : Dev nD) : Loc nD τ sig := (SparseCore.T d).loc main_v0
/-- Half of each target: the row of that table. -/
abbrev iLoc (d : Dev nD) : Loc nD τ sig := (SparseCore.T d).loc main_v1
/-- The gathered rows. -/
abbrev oLoc (d : Dev nD) : Loc nD τ sig := (SparseCore.T d).loc main_v2

/-- The table's index at row `r`, column `c`. -/
def tabIx (r : Fin 50000) (c : Fin 128) : S50000x128.Idx := fun a => match a with | 0 => r | 1 => c
/-- The list's index at position `b`. -/
def idxIx (b : Fin 1024) : S1024.Idx := fun a => match a with | 0 => b

/-- Row `j 0` of the table at the row number the list holds for it: what the gather leaves. -/
def gathered (tab : S50000x128.Idx → Elt F .f32) (idx : S1024.Idx → Elt F .i32) (j : S1024x128.Idx) : Elt F .f32 :=
  tab (tabIx (Fin.ofNat 50000 (idx (idxIx (j 0))).toNat) (j 1))

end Cert.Proof.Kern

end
-- ==== Proof.InRange.lean ====
/-
  What the precondition gives: every target is a row of the features, and half of it a row of the paired table.
-/
module

public import proofs.«01_k».proof.Proof.Run
public import proofs.«01_k».proof.Proof.Gen.Pre_in_range
public import Idealize.ShloMosaic.Lib.ReduceAll
public import Idealize.ShloMosaic.Lib.Affine
public import Idealize.ShloMosaic.Lib.Routing.Words

@[expose] public section

noncomputable section

namespace Cert.Proof.Kern

open Cert.Kernel Cert.Kernel.Gen
open Idealize.ShloMosaic Idealize.ShloMosaic.TcCoe Idealize.SL.Sem

variable {F : FTy → Type} [FloatOps F] [∀ e, Nonempty (Elt F e)]

instance : Subsingleton Cert.Pre_in_range.S_.Idx := ⟨fun a b => funext fun i => i.elim0⟩

/-- The predicate all ones says that every target, read as a number, is below 100000. -/
theorem lt_of_pre (a0 : FVec F Cert.Pre_in_range.S1024x64 .f32) (t : IVec Cert.Pre_in_range.S1024 32) (a2 : FVec F Cert.Pre_in_range.S100000x64 .f32)
    (h : Cert.Pre_in_range.fn (F := F) a0 t a2 = fun _ => 1#1) (j : Cert.Pre_in_range.S1024.Idx) : (t j).toNat < 100000 := by
  dsimp only [Cert.Pre_in_range.fn] at h
  have e := Host.reduce_andi_all _ _ _ _ _ (congrFun h (fun i => i.elim0)) j
  obtain ⟨e1, e2⟩ := IntOp.andi_eq_one.1 e
  have e1 := IntOp.cmpi_sge.1 e1
  have e2 := IntOp.cmpi_slt.1 e2
  simp only [broadcastInDim, constantI, BitVec.toInt_eq_toNat_cond, BitVec.toNat_ofNat, Nat.reducePow, Nat.reduceMod] at e1 e2
  omega

/-- Half of a target that is a row of the features, as a number. -/
theorem halves_toNat (t : IVec S1024 32) (j : S1024.Idx) (h : (t j).toNat < 100000) : (halves t j).toNat = (t j).toNat / 2 := by
  have e := Routing.pyDiv_ap bcast_S_S1024 t (constantI S_ 32 2#32) j (a := (t j).toNat) (b := 2) (BitVec.eq_of_toNat_eq (by rw [BitVec.toNat_ofNat, Nat.mod_eq_of_lt (t j).isLt])) rfl (by omega) (by omega) (by omega)
  have e' : halves t j = BitVec.ofNat 32 ((t j).toNat / 2) := e
  rw [e', BitVec.toNat_ofNat, Nat.mod_eq_of_lt (by omega)]

variable (m : (ℓ : Loc nD τ sig) → Buf (Elt F) ℓ) (ρ : Dev nD → PrngReg)

/-- The list of halves holds rows of the paired table. -/
theorem list_ok (h : ∀ d : Dev nD, Cert.Pre_in_range.fn (F := F) (m ((d.tc : Thread nD τ).loc main_arg0)) (m ((d.tc : Thread nD τ).loc main_arg1))
    (m ((d.tc : Thread nD τ).loc main_arg2)) = fun _ => 1#1) : ListOK (idxM m) := by
  intro d j
  have hj := lt_of_pre _ _ _ (h d) j
  rw [show idxM m d = halves (Wl m d main_arg1 : IVec S1024 32) from ops1_v1 _]
  refine (halves_toNat _ j hj).trans_lt ?_
  exact Nat.div_lt_of_lt_mul hj

end Cert.Proof.Kern

end
-- ==== Proof.Frame.lean ====
/-
  The kernel's frame: it runs, leaves its arguments and every semaphore counter as they were.
-/
module

public import proofs.«01_k».proof.Proof.InRange

@[expose] public section

noncomputable section

namespace Cert.Proof.Kern

open Cert.Kernel Cert.Kernel.Gen
open Idealize.ShloMosaic Idealize.ShloMosaic.TcCoe Idealize.SL.Sem

/-- The kernel's frame (Defs.lean), from targets in range. -/
theorem frame : Cert.quiescent_Kernel := fun m ρ hpre =>
  (θ_run Cert.Kernel.defs _ _).mono (fun _ h => ⟨fun c => (h.1 c).2, h.2⟩) (run_main (F := Bits) m ρ (list_ok m hpre))

end Cert.Proof.Kern

end
-- ==== Proof.SetupI.lean ====
/-
  The kernel's program as the launch theorem sees it: the labels, the SparseCore configuration, the
  resource algebra (the handshakes' rounds, the staging rounds of the TensorCore's region, the counters
  of the tiles' copies), the buffers by name, and what is computed of them on the host before the call.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.ArrRel
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels of the kernels' table: the user's, the one pipeline's. -/
abbrev ΛP [FloatOps F] [Named F] : Labels := Pipeline.Sig Λ₀ (Fin 1) fun p => (pcfgs (F := F) p).Adm
/-- The SparseCore configuration: one vector call over two SparseCores of sixteen tiles. -/
abbrev K [FloatOps F] [Named F] : SparseCore.Cfg τ sig (ΛP (F := F)) 1 := sc (F := F)
theorem nSub_K [FloatOps F] [Named F] : (K (F := F)).nSub 0 = 16 := rfl
theorem nCore_K [FloatOps F] [Named F] : (K (F := F)).nCore 0 = 2 := rfl
/-- The definitions of the kernels' table, the pipeline's expanded. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' cells are four distinct ones outside every scope, and no shared buffer is in play. -/
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The staging rounds of the TensorCore's region. -/
abbrev UP : Type := UR sig nD τ
/-- Both, beside the counters of the tiles' copies. -/
abbrev UU : Type := (UH × UP) × Counters

local notation "𝕄" => MT nD τ sig (HIx 1) (Elt F) ℕ UU ℕ

abbrev EH : Emb UH (MT nD τ sig (HIx 1) (Elt F) ℕ UU ℕ) := (Emb.inl : Emb UH (UH × UP)).trans embL
abbrev EP : Emb UP (MT nD τ sig (HIx 1) (Elt F) ℕ UU ℕ) := (Emb.inr : Emb UP (UH × UP)).trans embL

instance EP_lands : (EP (F := F)).LandsIn (upEmb : UEmb _ 𝕄) := by infer_instance
instance EH_lands : (EH (F := F)).LandsIn (upEmb : UEmb _ 𝕄) := by infer_instance

/-! ## The buffers by name -/

/-- The inputs. -/
abbrev xLoc (d : Dev nD) : Loc nD τ sig := (SparseCore.T d).loc main_arg0
/-- The targets. -/
abbrev gLoc (d : Dev nD) : Loc nD τ sig := (SparseCore.T d).loc main_arg1
/-- The features. -/
abbrev fLoc (d : Dev nD) : Loc nD τ sig := (SparseCore.T d).loc main_arg2
/-- The features, two rows to a row of 128. -/
abbrev tLoc (d : Dev nD) : Loc nD τ sig := (SparseCore.T d).loc main_v0
/-- Half of each target: the row of that table. -/
abbrev iLoc (d : Dev nD) : Loc nD τ sig := (SparseCore.T d).loc main_v1
/-- The gathered rows. -/
abbrev oLoc (d : Dev nD) : Loc nD τ sig := (SparseCore.T d).loc main_v2

/-- The table's index at row `r`, column `c`. -/
def tabIx (r : Fin 50000) (c : Fin 128) : S50000x128.Idx := fun a => match a with | 0 => r | 1 => c
/-- The list's index at position `b`. -/
def idxIx (b : Fin 1024) : S1024.Idx := fun a => match a with | 0 => b

/-- Row `j 0` of the table at the row number the list holds for it: what the gather leaves. -/
def gathered (tab : S50000x128.Idx → Elt F .f32) (idx : S1024.Idx → Elt F .i32) (j : S1024x128.Idx) : Elt F .f32 :=
  tab (tabIx (Fin.ofNat 50000 (idx (idxIx (j 0))).toNat) (j 1))

end Cert.Proof.KernI

end
-- ==== Proof.BodyI.lean ====
/-
  The TensorCore kernel's body, run at each kind of grid point: the first (the scaled rows and a cleared
  accumulator are stored, the first tile added), a middle one (its tile added), and the last (the cut tile
  added and the loss stored). What it leaves in each buffer is named by the values the program computes.
-/
module

public import proofs.«01_k».proof.Proof.SetupI
public import Idealize.ShloMosaic.Lib.VecWindow

@[expose] public section

noncomputable section

namespace Cert.Proof.KernI

open Cert.KernelIdeal Cert.KernelIdeal.Gen

open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

/-! ## What the body computes -/

/-- The accumulator after a whole tile. -/
def accFull (xsb : Vec F S1024x64 .bf16) (f : Vec F S4096x64 .f32) (a : Vec F S1024x128 .f32) : Vec F S1024x128 .f32 :=
  k1_pay6 (k1_pay9 (k1_pay5 xsb f)) (k1_pay10 (k1_pay5 xsb f)) (k1_pay11 (k1_pay5 xsb f)) (k1_pay12 (k1_pay5 xsb f))
    (k1_pay13 (k1_pay5 xsb f)) (k1_pay14 (k1_pay5 xsb f)) (k1_pay15 (k1_pay5 xsb f)) (k1_pay16 (k1_pay5 xsb f)) a

/-- The accumulator after the last tile, whose columns past the features' end are masked. -/
def accLast (xsb : Vec F S1024x64 .bf16) (f : Vec F S4096x64 .f32) (a : Vec F S1024x128 .f32) : Vec F S1024x128 .f32 :=
  k1_pay33 (k1_pay18 (k1_pay5 xsb f)) (k1_pay19 (k1_pay5 xsb f)) (k1_pay20 (k1_pay5 xsb f)) (k1_pay21 (k1_pay5 xsb f))
    (k1_pay22 (k1_pay5 xsb f)) (k1_pay23 (k1_pay5 xsb f)) (k1_pay24 (k1_pay5 xsb f)) (k1_pay25 (k1_pay5 xsb f))
    (k1_pay26 (k1_pay5 xsb f)) (k1_pay27 (k1_pay5 xsb f)) (k1_pay28 (k1_pay5 xsb f)) (k1_pay29 (k1_pay5 xsb f))
    (k1_pay30 (k1_pay5 xsb f)) (k1_pay31 (k1_pay5 xsb f)) (k1_pay32 (k1_pay5 xsb f)) a

/-- The loss stored at the last point, of the scaled rows, the final accumulator, the gathered rows and the targets. -/
def lossOf (xs : Vec F S1024x64 .f32) (a : Vec F S1024x128 .f32) (g : Vec F S1024x128 .f32) (t : Vec F S1024x1 .i32) : F .f32 :=
  k1_pay7 (k1_pay34 a) (k1_pay35 g) (Scalar.select (Scalar.cmpi .eq 2#32 0#32) 1#32 2#32) (k1_pay36 t) (k1_pay37 t) (k1_pay38 t) xs

/-! ## The run -/

section Run

variable (c : Dev nD) (i : grid1.Coords)
  (M1 : Memref sig .tc .vmem S1024x64 .f32) (h1 : M1.IsWhole) (M2 : Memref sig .tc .vmem S1024x128 .f32) (h2 : M2.IsWhole)
  (M3 : Memref sig .tc .vmem S1024x1 .i32) (h3 : M3.IsWhole) (M4 : Memref sig .tc .vmem S4096x64 .f32) (h4 : M4.IsWhole)
  (M5 : Memref sig .tc .smem S1x1 .f32) (h5 : M5.IsWhole) (M6 : Memref sig .tc .vmem S1024x64 .f32) (h6 : M6.IsWhole)
  (M7 : Memref sig .tc .vmem S1024x64 .bf16) (h7 : M7.IsWhole) (M8 : Memref sig .tc .vmem S1024x128 .f32) (h8 : M8.IsWhole)

/-- Memref `M`'s buffer held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem read64 (M : Memref sig .tc .vmem S1024x64 .f32) (f : Buf (Elt F) (M.view.loc (c : Thread nD τ))) :
    View.readAt (Elt F) M.view (Rect.unit ![0, 0] ![1024, 64] inb_S1024x64_S1024x64_0_0).toLoadRect f = M.view.read (Elt F) f := View.readAt_full M.view f inb_S1024x64_S1024x64_0_0
theorem read64b (M : Memref sig .tc .vmem S1024x64 .bf16) (f : Buf (Elt F) (M.view.loc (c : Thread nD τ))) :
    View.readAt (Elt F) M.view (Rect.unit ![0, 0] ![1024, 64] inb_S1024x64_S1024x64_0_0).toLoadRect f = M.view.read (Elt F) f := View.readAt_full M.view f inb_S1024x64_S1024x64_0_0
theorem read128 (M : Memref sig .tc .vmem S1024x128 .f32) (f : Buf (Elt F) (M.view.loc (c : Thread nD τ))) :
    View.readAt (Elt F) M.view (Rect.unit ![0, 0] ![1024, 128] inb_S1024x128_S1024x128_0_0).toLoadRect f = M.view.read (Elt F) f := View.readAt_full M.view f inb_S1024x128_S1024x128_0_0
theorem read1 (M : Memref sig .tc .vmem S1024x1 .i32) (f : Buf (Elt F) (M.view.loc (c : Thread nD τ))) :
    View.readAt (Elt F) M.view (Rect.unit ![0, 0] ![1024, 1] inb_S1024x1_S1024x1_0_0).toLoadRect f = M.view.read (Elt F) f := View.readAt_full M.view f inb_S1024x1_S1024x1_0_0
theorem read4096 (M : Memref sig .tc .vmem S4096x64 .f32) (f : Buf (Elt F) (M.view.loc (c : Thread nD τ))) :
    View.readAt (Elt F) M.view (Rect.unit ![0, 0] ![4096, 64] inb_S4096x64_S4096x64_0_0).toLoadRect f = M.view.read (Elt F) f := View.readAt_full M.view f inb_S4096x64_S4096x64_0_0
theorem cov64b (M : Memref sig .tc .vmem S1024x64 .bf16) (w : Vec F S1024x64 .bf16) (L : List (View.Piece (Elt F) S1024x64 .bf16)) :
    M.view.readCov (⟨Rect.unit ![0, 0] ![1024, 64] inb_S1024x64_S1024x64_0_0, w⟩ :: L) (Rect.unit ![0, 0] ![1024, 64] inb_S1024x64_S1024x64_0_0).toLoadRect = w :=
  View.readCov_full M.view inb_S1024x64_S1024x64_0_0 inb_S1024x64_S1024x64_0_0 w L
theorem cov128 (M : Memref sig .tc .vmem S1024x128 .f32) (w : Vec F S1024x128 .f32) (L : List (View.Piece (Elt F) S1024x128 .f32)) :
    M.view.readCov (⟨Rect.unit ![0, 0] ![1024, 128] inb_S1024x128_S1024x128_0_0, w⟩ :: L) (Rect.unit ![0, 0] ![1024, 128] inb_S1024x128_S1024x128_0_0).toLoadRect = w :=
  View.readCov_full M.view inb_S1024x128_S1024x128_0_0 inb_S1024x128_S1024x128_0_0 w L

/-- A middle point: the accumulator gains its tile, every other buffer is as it was. -/
theorem run_mid
    (hc1 : ¬ Scalar.cmpi .ne (Scalar.extui (Scalar.cmpi .eq (BitVec.ofNat 32 (i 0).val) 0#32) : BitVec 32) 0#32 = 1#1)
    (hc2 : Scalar.cmpi .ne (Scalar.extui (Scalar.cmpi .slt (BitVec.ofNat 32 (i 0).val) 24#32) : BitVec 32) 0#32 = 1#1)
    (hc3 : ¬ k1_cond3 i = 1#1)
    (f4 : Buf (Elt F) (M4.view.loc (c : Thread nD τ))) (f7 : Buf (Elt F) (M7.view.loc (c : Thread nD τ))) (f8 : Buf (Elt F) (M8.view.loc (c : Thread nD τ)))
    (E : Set ℕ) (Q : PUnit → sProp 𝕄) :
    iprop(pt c M4 f4 ∗ pt c M7 f7 ∗ pt c M8 f8
        ∗ (iprop(pt c M4 f4 ∗ pt c M7 f7 ∗ (∃ f, ⌜M8.view.read (Elt F) f = accFull (M7.view.read (Elt F) f7) (M4.view.read (Elt F) f4) (M8.view.read (Elt F) f8)⌝ ∗ pt c M8 f)) -∗ Q ⟨⟩))
      ⊢ wp frame (wpE (defs₀ (F := F)) Variants.none c none) E (cc1__tc_body i M1 h1 M2 h2 M3 h3 M4 h4 M5 h5 M6 h6 M7 h7 M8 h8) Q := by
  simp only [cc1__tc_body_eq_skeleton]; unfold cc1__tc_body_skel
  dsimp only
  rw [dif_neg hc1]
  simp only [dif_pos hc2, dif_neg hc3, k1_part1_eq_skeleton]
  unfold k1_part1_skel
  iintro ⟨H4, H7, H8, Hk⟩
  sl_exec
  sl_step
  iapply Hk
  isplitl [H4]; · iexact H4
  isplitl [H7]; · iexact H7
  iexists _; isplitr
  swap; · iexact H8
  ipureintro
  refine (View.read_writes_full M8.view f8 inb_S1024x128_S1024x128_0_0 _ []).trans ?_
  simp only [read64b, read128, read4096]
  rfl

/-- The first point: the scaled rows are stored, in both formats, and the cleared accumulator gains the first tile. -/
theorem run_first
    (hc1 : Scalar.cmpi .ne (Scalar.extui (Scalar.cmpi .eq (BitVec.ofNat 32 (i 0).val) 0#32) : BitVec 32) 0#32 = 1#1)
    (hc2 : Scalar.cmpi .ne (Scalar.extui (Scalar.cmpi .slt (BitVec.ofNat 32 (i 0).val) 24#32) : BitVec 32) 0#32 = 1#1)
    (hc3 : ¬ k1_cond3 i = 1#1)
    (f1 : Buf (Elt F) (M1.view.loc (c : Thread nD τ))) (f4 : Buf (Elt F) (M4.view.loc (c : Thread nD τ))) (f6 : Buf (Elt F) (M6.view.loc (c : Thread nD τ)))
    (f7 : Buf (Elt F) (M7.view.loc (c : Thread nD τ))) (f8 : Buf (Elt F) (M8.view.loc (c : Thread nD τ)))
    (E : Set ℕ) (Q : PUnit → sProp 𝕄) :
    iprop(pt c M1 f1 ∗ pt c M4 f4 ∗ pt c M6 f6 ∗ pt c M7 f7 ∗ pt c M8 f8
        ∗ (iprop(pt c M1 f1 ∗ pt c M4 f4 ∗ (∃ f, ⌜M6.view.read (Elt F) f = k1_pay2 (M1.view.read (Elt F) f1)⌝ ∗ pt c M6 f)
            ∗ (∃ f, ⌜M7.view.read (Elt F) f = k1_pay3 (M1.view.read (Elt F) f1)⌝ ∗ pt c M7 f)
            ∗ (∃ f, ⌜M8.view.read (Elt F) f = accFull (k1_pay3 (M1.view.read (Elt F) f1)) (M4.view.read (Elt F) f4) k1_pay4⌝ ∗ pt c M8 f)) -∗ Q ⟨⟩))
      ⊢ wp frame (wpE (defs₀ (F := F)) Variants.none c none) E (cc1__tc_body i M1 h1 M2 h2 M3 h3 M4 h4 M5 h5 M6 h6 M7 h7 M8 h8) Q := by
  simp only [cc1__tc_body_eq_skeleton]; unfold cc1__tc_body_skel
  dsimp only
  rw [dif_pos hc1]
  simp only [dif_pos hc2, dif_neg hc3, k1_part1_eq_skeleton]
  unfold k1_part1_skel
  iintro ⟨H1, H4, H6, H7, H8, Hk⟩
  sl_exec
  sl_step
  iapply Hk
  isplitl [H1]; · iexact H1
  isplitl [H4]; · iexact H4
  isplitl [H6]
  · iexists _; isplitr
    swap; · iexact H6
    ipureintro
    refine (View.read_writes_full M6.view f6 inb_S1024x64_S1024x64_0_0 _ []).trans ?_
    simp only [read64]
  isplitl [H7]
  · iexists _; isplitr
    swap; · iexact H7
    ipureintro
    refine (View.read_writes_full M7.view f7 inb_S1024x64_S1024x64_0_0 _ []).trans ?_
    simp only [read64]
  iexists _; isplitr
  swap; · iexact H8
  ipureintro
  refine (View.read_writes_full M8.view f8 inb_S1024x128_S1024x128_0_0 _ _).trans ?_
  delta run_first.sl.v3 run_first.sl.v79 run_first.sl.H7_1 run_first.sl.H8_1
  simp only [read64, read4096, cov64b, cov128]
  rfl

/-- The last point: the cut tile is added and the loss stored. -/
theorem run_last
    (hc1 : ¬ Scalar.cmpi .ne (Scalar.extui (Scalar.cmpi .eq (BitVec.ofNat 32 (i 0).val) 0#32) : BitVec 32) 0#32 = 1#1)
    (hc2 : ¬ Scalar.cmpi .ne (Scalar.extui (Scalar.cmpi .slt (BitVec.ofNat 32 (i 0).val) 24#32) : BitVec 32) 0#32 = 1#1)
    (hc3 : k1_cond3 i = 1#1)
    (f2 : Buf (Elt F) (M2.view.loc (c : Thread nD τ))) (f3 : Buf (Elt F) (M3.view.loc (c : Thread nD τ)))
    (f4 : Buf (Elt F) (M4.view.loc (c : Thread nD τ))) (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (E : Set ℕ) (Q : PUnit → sProp 𝕄) :
    iprop(pt c M2 f2 ∗ pt c M3 f3 ∗ pt c M4 f4 ∗ pt c M5 f5 ∗ pt c M6 f6 ∗ pt c M7 f7 ∗ pt c M8 f8
        ∗ (iprop(pt c M2 f2 ∗ pt c M3 f3 ∗ pt c M4 f4
            ∗ (∃ f, ⌜M5.view.read (Elt F) f = fun _ => lossOf (M6.view.read (Elt F) f6)
                (accLast (M7.view.read (Elt F) f7) (M4.view.read (Elt F) f4) (M8.view.read (Elt F) f8)) (M2.view.read (Elt F) f2) (M3.view.read (Elt F) f3)⌝ ∗ pt c M5 f)
            ∗ pt c M6 f6 ∗ pt c M7 f7 ∗ (∃ f, pt c M8 f)) -∗ Q ⟨⟩))
      ⊢ wp frame (wpE (defs₀ (F := F)) Variants.none c none) E (cc1__tc_body i M1 h1 M2 h2 M3 h3 M4 h4 M5 h5 M6 h6 M7 h7 M8 h8) Q := by
  simp only [cc1__tc_body_eq_skeleton]; unfold cc1__tc_body_skel
  dsimp only
  rw [dif_neg hc1]
  simp only [dif_neg hc2, dif_pos hc3, k1_part2_eq_skeleton, k1_part3_eq_skeleton]
  unfold k1_part2_skel k1_part3_skel
  iintro ⟨H2, H3, H4, H5, H6, H7, H8, Hk⟩
  sl_exec
  sl_step
  iapply Hk
  isplitl [H2]; · iexact H2
  isplitl [H3]; · iexact H3
  isplitl [H4]; · iexact H4
  isplitl [H5]
  · iexists _; isplitr
    swap; · iexact H5
    ipureintro
    refine (View.read_writes_full M5.view f5 inb_S1x1_S1x1_0_0 _ []).trans ?_
    delta run_last.sl.v89 run_last.sl.H8_1
    simp only [read64, read64b, read4096, read128, read1, cov128]
    rfl
  isplitl [H6]; · iexact H6
  isplitl [H7]; · iexact H7
  iexists _; iexact H8

/-- A whole memref's contents, held whole. -/
theorem owns_pt {sp : Space} {sh : Shape} {e : EltTy} (M : Memref sig .tc sp sh e) (hM : M.IsWhole) (X : sh.Idx → Elt F e) :
    (owns (c : Thread nD τ) M fullShare X : sProp 𝕄) = iprop(∃ f, ⌜M.view.read (Elt F) f = X⌝ ∗ pt c M f) := by
  unfold owns pt
  rw [hM.set_eq_univ]

/-- `run_mid` over what the buffers read. -/
theorem owns_mid
    (hc1 : ¬ Scalar.cmpi .ne (Scalar.extui (Scalar.cmpi .eq (BitVec.ofNat 32 (i 0).val) 0#32) : BitVec 32) 0#32 = 1#1)
    (hc2 : Scalar.cmpi .ne (Scalar.extui (Scalar.cmpi .slt (BitVec.ofNat 32 (i 0).val) 24#32) : BitVec 32) 0#32 = 1#1)
    (hc3 : ¬ k1_cond3 i = 1#1)
    (X4 : Vec F S4096x64 .f32) (X7 : Vec F S1024x64 .bf16) (X8 : Vec F S1024x128 .f32) (E : Set ℕ) (Q : PUnit → sProp 𝕄) :
    iprop(owns (c : Thread nD τ) M4 fullShare X4 ∗ owns (c : Thread nD τ) M7 fullShare X7 ∗ owns (c : Thread nD τ) M8 fullShare X8
        ∗ (iprop(owns (c : Thread nD τ) M4 fullShare X4 ∗ owns (c : Thread nD τ) M7 fullShare X7 ∗ owns (c : Thread nD τ) M8 fullShare (accFull X7 X4 X8)) -∗ Q ⟨⟩))
      ⊢ wp frame (wpE (defs₀ (F := F)) Variants.none c none) E (cc1__tc_body i M1 h1 M2 h2 M3 h3 M4 h4 M5 h5 M6 h6 M7 h7 M8 h8) Q := by
  simp only [owns_pt c M4 h4, owns_pt c M7 h7, owns_pt c M8 h8]
  iintro ⟨⟨%f4, %e4, H4⟩, ⟨%f7, %e7, H7⟩, ⟨%f8, %e8, H8⟩, Hk⟩
  subst e4 e7 e8
  iapply (run_mid c i M1 h1 M2 h2 M3 h3 M4 h4 M5 h5 M6 h6 M7 h7 M8 h8 hc1 hc2 hc3 f4 f7 f8 E Q)
  isplitl [H4]; · iexact H4
  isplitl [H7]; · iexact H7
  isplitl [H8]; · iexact H8
  iintro ⟨H4, H7, H8⟩
  iapply Hk
  isplitl [H4]; · iexists f4; isplitr; · ipureintro; rfl
                  iexact H4
  isplitl [H7]; · iexists f7; isplitr; · ipureintro; rfl
                  iexact H7
  iexact H8

/-- `run_first` over what the buffers read. -/
theorem owns_first
    (hc1 : Scalar.cmpi .ne (Scalar.extui (Scalar.cmpi .eq (BitVec.ofNat 32 (i 0).val) 0#32) : BitVec 32) 0#32 = 1#1)
    (hc2 : Scalar.cmpi .ne (Scalar.extui (Scalar.cmpi .slt (BitVec.ofNat 32 (i 0).val) 24#32) : BitVec 32) 0#32 = 1#1)
    (hc3 : ¬ k1_cond3 i = 1#1)
    (X1 : Vec F S1024x64 .f32) (X4 : Vec F S4096x64 .f32) (X6 : Vec F S1024x64 .f32) (X7 : Vec F S1024x64 .bf16) (X8 : Vec F S1024x128 .f32) (E : Set ℕ) (Q : PUnit → sProp 𝕄) :
    iprop(owns (c : Thread nD τ) M1 fullShare X1 ∗ owns (c : Thread nD τ) M4 fullShare X4 ∗ owns (c : Thread nD τ) M6 fullShare X6
        ∗ owns (c : Thread nD τ) M7 fullShare X7 ∗ owns (c : Thread nD τ) M8 fullShare X8
        ∗ (iprop(owns (c : Thread nD τ) M1 fullShare X1 ∗ owns (c : Thread nD τ) M4 fullShare X4 ∗ owns (c : Thread nD τ) M6 fullShare (k1_pay2 X1)
          ∗ owns (c : Thread nD τ) M7 fullShare (k1_pay3 X1) ∗ owns (c : Thread nD τ) M8 fullShare (accFull (k1_pay3 X1) X4 k1_pay4)) -∗ Q ⟨⟩))
      ⊢ wp frame (wpE (defs₀ (F := F)) Variants.none c none) E (cc1__tc_body i M1 h1 M2 h2 M3 h3 M4 h4 M5 h5 M6 h6 M7 h7 M8 h8) Q := by
  simp only [owns_pt c M1 h1, owns_pt c M4 h4, owns_pt c M6 h6, owns_pt c M7 h7, owns_pt c M8 h8]
  iintro ⟨⟨%f1, %e1, H1⟩, ⟨%f4, %e4, H4⟩, ⟨%f6, %e6, H6⟩, ⟨%f7, %e7, H7⟩, ⟨%f8, %e8, H8⟩, Hk⟩
  subst e1 e4
  iapply (run_first c i M1 h1 M2 h2 M3 h3 M4 h4 M5 h5 M6 h6 M7 h7 M8 h8 hc1 hc2 hc3 f1 f4 f6 f7 f8 E Q)
  isplitl [H1]; · iexact H1
  isplitl [H4]; · iexact H4
  isplitl [H6]; · iexact H6
  isplitl [H7]; · iexact H7
  isplitl [H8]; · iexact H8
  iintro ⟨H1, H4, H6, H7, H8⟩
  iapply Hk
  isplitl [H1]; · iexists f1; isplitr; · ipureintro; rfl
                  iexact H1
  isplitl [H4]; · iexists f4; isplitr; · ipureintro; rfl
                  iexact H4
  isplitl [H6]; · iexact H6
  isplitl [H7]; · iexact H7
  iexact H8

/-- `run_last` over what the buffers read. -/
theorem owns_last
    (hc1 : ¬ Scalar.cmpi .ne (Scalar.extui (Scalar.cmpi .eq (BitVec.ofNat 32 (i 0).val) 0#32) : BitVec 32) 0#32 = 1#1)
    (hc2 : ¬ Scalar.cmpi .ne (Scalar.extui (Scalar.cmpi .slt (BitVec.ofNat 32 (i 0).val) 24#32) : BitVec 32) 0#32 = 1#1)
    (hc3 : k1_cond3 i = 1#1)
    (X2 : Vec F S1024x128 .f32) (X3 : Vec F S1024x1 .i32) (X4 : Vec F S4096x64 .f32) (X5 : Vec F S1x1 .f32)
    (X6 : Vec F S1024x64 .f32) (X7 : Vec F S1024x64 .bf16) (X8 : Vec F S1024x128 .f32) (E : Set ℕ) (Q : PUnit → sProp 𝕄) :
    iprop(owns (c : Thread nD τ) M2 fullShare X2 ∗ owns (c : Thread nD τ) M3 fullShare X3 ∗ owns (c : Thread nD τ) M4 fullShare X4
        ∗ owns (c : Thread nD τ) M5 fullShare X5 ∗ owns (c : Thread nD τ) M6 fullShare X6
        ∗ owns (c : Thread nD τ) M7 fullShare X7 ∗ owns (c : Thread nD τ) M8 fullShare X8
        ∗ (iprop(owns (c : Thread nD τ) M2 fullShare X2 ∗ owns (c : Thread nD τ) M3 fullShare X3 ∗ owns (c : Thread nD τ) M4 fullShare X4
          ∗ owns (c : Thread nD τ) M5 fullShare (fun _ => lossOf X6 (accLast X7 X4 X8) X2 X3)
          ∗ owns (c : Thread nD τ) M6 fullShare X6 ∗ owns (c : Thread nD τ) M7 fullShare X7 ∗ (∃ f, pt c M8 f)) -∗ Q ⟨⟩))
      ⊢ wp frame (wpE (defs₀ (F := F)) Variants.none c none) E (cc1__tc_body i M1 h1 M2 h2 M3 h3 M4 h4 M5 h5 M6 h6 M7 h7 M8 h8) Q := by
  simp only [owns_pt c M2 h2, owns_pt c M3 h3, owns_pt c M4 h4, owns_pt c M5 h5, owns_pt c M6 h6, owns_pt c M7 h7, owns_pt c M8 h8]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
  subst e2 e3 e4 e6 e7 e8
  iapply (run_last c i M1 h1 M2 h2 M3 h3 M4 h4 M5 h5 M6 h6 M7 h7 M8 h8 hc1 hc2 hc3 f2 f3 f4 f5 f6 f7 f8 E Q)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexact H5
  isplitl [H6]; · iexists f6; isplitr; · ipureintro; rfl
                  iexact H6
  isplitl [H7]; · iexists f7; isplitr; · ipureintro; rfl
                  iexact H7
  iexact H8

end Run

end Cert.Proof.KernI

end
-- ==== Proof.RegionDataI.lean ====
/-
  The TensorCore region's proof data: what each window's staging buffer holds at each grid point, the
  invariant that carries the scaled rows and the running accumulator, and the body's obligation.
-/
module

public import proofs.«01_k».proof.Proof.BodyI

@[expose] public section

noncomputable section

namespace Cert.Proof.KernI

open Cert.KernelIdeal Cert.KernelIdeal.Gen

open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F] [∀ e, Nonempty (Elt F e)]

local notation "𝕄" => MT nD τ sig (HIx 1) (Elt F) ℕ UU ℕ

/-! ## The values -/

/-- The features' block `n` of 4096 rows as a fetch over `d` leaves it: the rows inside the features, `d` past their end. -/
def featBlk (ft : Vec F S100000x64 .f32) (n : ℕ) (d : Vec F S4096x64 .f32) : Vec F S4096x64 .f32 := fun j =>
  if h : 4096 * n + (j 0).val < 100000 then ft (fun a => match a with | 0 => ⟨4096 * n + (j 0).val, h⟩ | 1 => j 1) else d j

omit [FloatOps F] [Named F] [∀ e, Nonempty (Elt F e)] in
/-- A block before the last lies whole inside the features. -/
theorem featBlk_congr (ft : Vec F S100000x64 .f32) (n : ℕ) (hn : n < 24) (d d' : Vec F S4096x64 .f32) : featBlk ft n d = featBlk ft n d' := by
  funext j
  have hj : (j 0).val < 4096 := (j 0).isLt
  unfold featBlk
  rw [dif_pos (by omega), dif_pos (by omega)]

/-- The accumulator before grid point `n`: cleared, then each whole tile added. -/
def accAt (x : Vec F S1024x64 .f32) (ft : Vec F S100000x64 .f32) : ℕ → Vec F S1024x128 .f32
  | 0 => k1_pay4
  | n + 1 => accFull (k1_pay3 x) (featBlk ft n fun _ => Classical.arbitrary _) (accAt x ft n)

/-- The loss the last point stores, the features' last block read over `d`. -/
def lossAt (x : Vec F S1024x64 .f32) (g : Vec F S1024x128 .f32) (tc : Vec F S1024x1 .i32) (ft : Vec F S100000x64 .f32) (d : Vec F S4096x64 .f32) : F .f32 :=
  lossOf (k1_pay2 x) (accLast (k1_pay3 x) (featBlk ft 24 d) (accAt x ft 24)) g tc

/-! ## The proof data -/

variable (V : (c : Dev nD) → (b : Ref sig .tc) → Buf (Elt F) ((c : Thread nD τ).loc b))

/-- The arrays as vectors. -/
abbrev vx (c : Dev nD) : Vec F S1024x64 .f32 := V c main_arg0
abbrev vg (c : Dev nD) : Vec F S1024x128 .f32 := V c main_v2
abbrev vt (c : Dev nD) : Vec F S1024x1 .i32 := V c main_v3
abbrev vf (c : Dev nD) : Vec F S100000x64 .f32 := V c main_arg2

/-- The invariant: the three scratches at anything at the region's ends, between them at the scaled rows in both formats and at
    the accumulator before the point. -/
def Φr (c : Dev nD) (n : ℕ) : sProp 𝕄 :=
  if n = 0 ∨ n = 25 then Pipeline.scopedRest (Ix := HIx 1) (Name := ℕ) (U := UU) (Lvl := ℕ) (Val := Elt F) spec1 c
  else iprop(((c : Thread nD τ).loc cc1_scratch0 ↦{fullShare} (k1_pay2 (vx V c) : Vec F S1024x64 .f32))
    ∗ ((c : Thread nD τ).loc cc1_scratch1 ↦{fullShare} (k1_pay3 (vx V c) : Vec F S1024x64 .bf16))
    ∗ ((c : Thread nD τ).loc cc1_scratch2 ↦{fullShare} (accAt (vx V c) (vf V c) n : Vec F S1024x128 .f32)))

/-- The region's proof data, from contents `V` of the unscoped buffers: the inputs' buffers are only read, the result's holds the
    loss after the last point. -/
def rdat (B : Set (SemLoc sig × HIx 1)) (c : Dev nD) : RDat τ (Elt F) (HIx 1) ℕ UU ℕ cfg1 c where
  A w := V c (Pipeline.arrRef spec1 w)
  after w t Y X := match w with
    | ⟨0, _⟩ => X = Y
    | ⟨1, _⟩ => X = Y
    | ⟨2, _⟩ => X = Y
    | ⟨3, _⟩ => X = Y
    | ⟨4, _⟩ => t.val = 24 → ∃ d, X = fun _ => lossAt (vx V c) (vg V c) (vt V c) (vf V c) d
  Φ t := Φr V c t.val
  q _ := fullShare
  owed _ := 0
  recorded _ := B

variable (B : Set (SemLoc sig × HIx 1))

theorem coord_val : ∀ t : Fin cfg1.N, (grid1.coords t 0).val = t.val := by decide

theorem xsize3 : ∀ t : Fin cfg1.N, win1_3.xsize (grid1.coords t) 0 = min 4096 (100000 - 4096 * t.val) ∧ win1_3.xsize (grid1.coords t) 1 = 64 := by decide

theorem index3 : ∀ t : Fin cfg1.N, win1_3.index t 0 = t.val ∧ win1_3.index t 1 = 0 := by decide

/-- What the features' buffer holds once fetched. -/
theorem fetched3 (c : Dev nD) (t : Fin cfg1.N) (d : Vec F S4096x64 .f32) :
    (rdat V B c).fetched 3 t d = featBlk (vf V c) t.val d := by
  funext j
  have hj : (j 0).val < 4096 := (j 0).isLt
  have hj1 : (j 1).val < 64 := (j 1).isLt
  obtain ⟨hx0, hx1⟩ := xsize3 t
  obtain ⟨hi0, hi1⟩ := index3 t
  by_cases h : 4096 * t.val + (j 0).val < 100000
  · have hm : win1_3.moved (grid1.coords t) j = true := (win1_3.moved_iff _ j).mpr fun a => by
      match a with
      | 0 => rw [hx0]; omega
      | 1 => rw [hx1]; exact hj1
    unfold featBlk
    rw [dif_pos h]
    refine (dif_pos hm).trans ?_
    show V c main_arg2 _ = V c main_arg2 _
    congr 1
    funext a
    match a with
    | 0 => exact Fin.ext (show win1_3.index t 0 * 4096 + 1 * (j 0).val = 4096 * t.val + (j 0).val by rw [hi0]; omega)
    | 1 => exact Fin.ext (show win1_3.index t 1 * 64 + 1 * (j 1).val = (j 1).val by rw [hi1]; omega)
  · have hm : ¬ win1_3.moved (grid1.coords t) j = true := fun hm => h (by
      have := (win1_3.moved_iff _ j).mp hm 0
      rw [hx0] at this; omega)
    unfold featBlk
    rw [dif_neg h]
    exact dif_neg hm

theorem fetched0 (c : Dev nD) (t : Fin cfg1.N) (d : Vec F S1024x64 .f32) : (rdat V B c).fetched 0 t d = vx V c := by
  funext j
  have hm : (cfg1.win 0).moved (cfg1.grid.coords t) j = true := rfl
  unfold RDat.fetched Window.fill
  rw [dif_pos hm]
  show V c main_arg0 _ = V c main_arg0 _
  congr 1
  funext a
  match a with
  | 0 => exact Fin.ext (show 0 * 1024 + 1 * (j 0).val = (j 0).val by omega)
  | 1 => exact Fin.ext (show 0 * 64 + 1 * (j 1).val = (j 1).val by omega)

theorem fetched1 (c : Dev nD) (t : Fin cfg1.N) (d : Vec F S1024x128 .f32) : (rdat V B c).fetched 1 t d = vg V c := by
  funext j
  have hm : (cfg1.win 1).moved (cfg1.grid.coords t) j = true := rfl
  unfold RDat.fetched Window.fill
  rw [dif_pos hm]
  show V c main_v2 _ = V c main_v2 _
  congr 1
  funext a
  match a with
  | 0 => exact Fin.ext (show 0 * 1024 + 1 * (j 0).val = (j 0).val by omega)
  | 1 => exact Fin.ext (show 0 * 128 + 1 * (j 1).val = (j 1).val by omega)

theorem fetched2 (c : Dev nD) (t : Fin cfg1.N) (d : Vec F S1024x1 .i32) : (rdat V B c).fetched 2 t d = vt V c := by
  funext j
  have hm : (cfg1.win 2).moved (cfg1.grid.coords t) j = true := rfl
  unfold RDat.fetched Window.fill
  rw [dif_pos hm]
  show V c main_v3 _ = V c main_v3 _
  congr 1
  funext a
  match a with
  | 0 => exact Fin.ext (show 0 * 1024 + 1 * (j 0).val = (j 0).val by omega)
  | 1 => exact Fin.ext (show 0 * 1 + 1 * (j 1).val = (j 1).val by omega)

theorem t_lt (t : Fin cfg1.N) : t.val < 25 := lt_of_lt_of_eq t.isLt N_1

/-- A window fetched at the first point alone and only read holds one block at every point. -/
theorem finds_const (c : Dev nD) (w : Fin 5) (Z : (cfg1.win w).block.Idx → Elt F (cfg1.win w).elt)
    (hfetch : ∀ t : Fin cfg1.N, (cfg1.win w).fetch t = true ↔ t.val % 25 = 0) (hflush : ∀ t : Fin cfg1.N, (cfg1.win w).flush t = false)
    (hfd : ∀ t d, (rdat V B c).fetched w t d = Z) (haft : ∀ t Y X, (rdat V B c).after w t Y X → X = Y) :
    ∀ (n : ℕ) (hn : n < cfg1.N) (X : (cfg1.win w).block.Idx → Elt F (cfg1.win w).elt), (rdat V B c).Finds w ⟨n, hn⟩ X → X = Z
  | 0, hn, X, h => by
    rw [RDat.finds_of_fetch _ ((hfetch _).mpr rfl)] at h
    obtain ⟨d, rfl⟩ := h; exact hfd _ d
  | n + 1, hn, X, h => by
    have h25 : n + 1 < 25 := t_lt ⟨n + 1, hn⟩
    have hf : (cfg1.win w).fetch ⟨n + 1, hn⟩ = false := by
      rw [Bool.eq_false_iff]; intro hc
      have h0 : (n + 1) % 25 = 0 := (hfetch ⟨n + 1, hn⟩).mp hc
      omega
    rw [RDat.finds_of_pos _ hf (Nat.succ_ne_zero n)] at h
    rcases h with h | ⟨Y, hY, hX⟩
    · rw [hflush] at h; exact absurd h Bool.false_ne_true
    · rw [haft _ _ _ hX]
      exact finds_const c w Z hfetch hflush hfd haft n (Nat.lt_of_succ_lt hn) Y hY

theorem finds0 (c : Dev nD) (t : Fin cfg1.N) (X : Vec F S1024x64 .f32) (h : (rdat V B c).Finds 0 t X) : X = vx V c :=
  finds_const V B c 0 (vx V c) fetch1_0 (fun _ => rfl) (fetched0 V B c) (fun _ _ _ h => h) t.val t.isLt X h
theorem finds1 (c : Dev nD) (t : Fin cfg1.N) (X : Vec F S1024x128 .f32) (h : (rdat V B c).Finds 1 t X) : X = vg V c :=
  finds_const V B c 1 (vg V c) fetch1_1 (fun _ => rfl) (fetched1 V B c) (fun _ _ _ h => h) t.val t.isLt X h
theorem finds2 (c : Dev nD) (t : Fin cfg1.N) (X : Vec F S1024x1 .i32) (h : (rdat V B c).Finds 2 t X) : X = vt V c :=
  finds_const V B c 2 (vt V c) fetch1_2 (fun _ => rfl) (fetched2 V B c) (fun _ _ _ h => h) t.val t.isLt X h
theorem finds3 (c : Dev nD) (t : Fin cfg1.N) (X : Vec F S4096x64 .f32) (h : (rdat V B c).Finds 3 t X) : ∃ d, X = featBlk (vf V c) t.val d := by
  rw [RDat.finds_of_fetch _ (fetch1_3 t)] at h
  obtain ⟨d, rfl⟩ := h; exact ⟨d, fetched3 V B c t d⟩

/-! ## The body's obligation -/

/-- The kernel's three conditions at a grid point. -/
theorem conds : ∀ t : Fin cfg1.N,
    (Scalar.cmpi .ne (Scalar.extui (Scalar.cmpi .eq (BitVec.ofNat 32 (grid1.coords t 0).val) 0#32) : BitVec 32) 0#32 = 1#1 ↔ t.val = 0)
    ∧ (Scalar.cmpi .ne (Scalar.extui (Scalar.cmpi .slt (BitVec.ofNat 32 (grid1.coords t 0).val) 24#32) : BitVec 32) 0#32 = 1#1 ↔ t.val < 24)
    ∧ (k1_cond3 (grid1.coords t) = 1#1 ↔ t.val = 24) := by decide

/-- The scratches between the region's ends. -/
theorem Φr_mid (c : Dev nD) (n : ℕ) (hn : ¬ (n = 0 ∨ n = 25)) :
    Φr V c n = iprop(owns (c : Thread nD τ) (Memref.whole cc1_scratch0) fullShare (k1_pay2 (vx V c)) ∗ owns (c : Thread nD τ) (Memref.whole cc1_scratch1) fullShare (k1_pay3 (vx V c))
      ∗ owns (c : Thread nD τ) (Memref.whole cc1_scratch2) fullShare (accAt (vx V c) (vf V c) n)) := by
  unfold Φr
  rw [if_neg hn]
  simp only [owns_whole]

theorem Φr_end (c : Dev nD) (n : ℕ) (hn : n = 0 ∨ n = 25) :
    Φr V c n = iprop((∃ X, owns (c : Thread nD τ) (Memref.whole cc1_scratch0) fullShare X) ∗ (∃ X, owns (c : Thread nD τ) (Memref.whole cc1_scratch1) fullShare X)
      ∗ (∃ X, owns (c : Thread nD τ) (Memref.whole cc1_scratch2) fullShare X)) := by
  unfold Φr
  rw [if_pos hn, scopedRest1_eq]
  simp only [owns_whole]

/-- The body at every point: from the invariant and the windows' buffers as the loop hands them, to the next point's. -/
theorem body_obligation (ι : HIx 1) (c : Dev nD) : (rdat V B c).BodyObligation (defs₀ (F := F)) Variants.none ι Set.univ := fun t Y hY => by
  have h25 := t_lt t
  obtain ⟨hc1, hc2, hc3⟩ := conds t
  have e0 := finds0 V B c t _ (hY 0)
  have e1 := finds1 V B c t _ (hY 1)
  have e2 := finds2 V B c t _ (hY 2)
  obtain ⟨d, e3⟩ := finds3 V B c t _ (hY 3)
  rw [bigSep_W1, bigSep_W1]
  rw [show (rdat V B c).Φ t.castSucc = Φr V c t.val from rfl, show (rdat V B c).Φ t.succ = Φr V c (t.val + 1) from rfl,
    show (rdat V B c).owesAt ι t.succ = (rdat V B c).owesAt ι t.castSucc from rfl]
  change _ ⊢ wp frame _ _ (bodyAt1 t) _
  rw [e0, e1, e2, e3]
  by_cases t0 : t.val = 0
  · rw [Φr_end V c t.val (.inl t0), Φr_mid V c (t.val + 1) (by omega)]
    iintro ⟨⟨⟨%X6, H6⟩, ⟨%X7, H7⟩, ⟨%X8, H8⟩⟩, HO, H1, H2, H3, H4, H5⟩
    iapply (owns_first c (grid1.coords t) _ _ _ _ _ _ _ _ _ _ _ _ _ _ _ _ (hc1.mpr t0) (hc2.mpr (by omega)) (fun h => by have := hc3.mp h; omega)
      (vx V c) (featBlk (vf V c) t.val d) X6 X7 X8 Set.univ _)
    isplitl [H1]; · iexact H1
    isplitl [H4]; · iexact H4
    isplitl [H6]; · iexact H6
    isplitl [H7]; · iexact H7
    isplitl [H8]; · iexact H8
    iintro ⟨H1, H4, H6, H7, H8⟩
    isplitl [H6 H7 H8]
    · isplitl [H6]; · iexact H6
      isplitl [H7]; · iexact H7
      rw [show accAt (vx V c) (vf V c) (t.val + 1) = accFull (k1_pay3 (vx V c)) (featBlk (vf V c) t.val d) k1_pay4 by
        rw [t0]; show accFull _ _ _ = _; rw [featBlk_congr _ 0 (by omega) _ d]; rfl]
      iexact H8
    isplitl [HO]; · iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    iexists _; isplitr; swap; · iexact H5
    ipureintro
    show t.val = 24 → _
    omega
  by_cases t24 : t.val = 24
  · rw [Φr_mid V c t.val (by omega), Φr_end V c (t.val + 1) (by omega)]
    iintro ⟨⟨H6, H7, H8⟩, HO, H1, H2, H3, H4, H5⟩
    iapply (owns_last c (grid1.coords t) _ _ _ _ _ _ _ _ _ _ _ _ _ _ _ _ (fun h => t0 (hc1.mp h)) (fun h => by have := hc2.mp h; omega) (hc3.mpr t24)
      (vg V c) (vt V c) (featBlk (vf V c) t.val d) _ (k1_pay2 (vx V c)) (k1_pay3 (vx V c)) (accAt (vx V c) (vf V c) t.val) Set.univ _)
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H2, H3, H4, H5, H6, H7, ⟨%f8, H8⟩⟩
    isplitl [H6 H7 H8]
    · isplitl [H6]; · iexists _; iexact H6
      isplitl [H7]; · iexists _; iexact H7
      iexists f8
      iapply (Entails.of_eq (owns_whole (c : Thread nD τ) cc1_scratch2 fullShare f8).symm)
      iexact H8
    isplitl [HO]; · iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    iexists _; isplitr; swap; · iexact H5
    ipureintro
    intro _
    refine ⟨d, ?_⟩
    unfold lossAt
    rw [t24]
    rfl
  · rw [Φr_mid V c t.val (by omega), Φr_mid V c (t.val + 1) (by omega)]
    iintro ⟨⟨H6, H7, H8⟩, HO, H1, H2, H3, H4, H5⟩
    iapply (owns_mid c (grid1.coords t) _ _ _ _ _ _ _ _ _ _ _ _ _ _ _ _ (fun h => t0 (hc1.mp h)) (hc2.mpr (by omega)) (fun h => t24 (hc3.mp h))
      (featBlk (vf V c) t.val d) (k1_pay3 (vx V c)) (accAt (vx V c) (vf V c) t.val) Set.univ _)
    isplitl [H4]; · iexact H4
    isplitl [H7]; · iexact H7
    isplitl [H8]; · iexact H8
    iintro ⟨H4, H7, H8⟩
    isplitl [H6 H7 H8]
    · isplitl [H6]; · iexact H6
      isplitl [H7]; · iexact H7
      rw [show accAt (vx V c) (vf V c) (t.val + 1) = accFull (k1_pay3 (vx V c)) (featBlk (vf V c) t.val d) (accAt (vx V c) (vf V c) t.val) by
        show accFull _ _ _ = _; rw [featBlk_congr _ t.val (by omega) _ d]]
      iexact H8
    isplitl [HO]; · iexact HO
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    iexists _; isplitr; swap; · iexact H5
    ipureintro
    show t.val = 24 → _
    omega

end Cert.Proof.KernI

end
-- ==== Proof.RegionI.lean ====
/-
  The TensorCore region over the thread state that @main keeps: every unscoped buffer held at a valuation.
  The region leaves them with the result's array at the loss, the features' last block read over some words.
-/
module

public import proofs.«01_k».proof.Proof.RegionDataI
public import Idealize.ShloMosaic.Lib.Pipeline.RegionsLoop

@[expose] public section

noncomputable section

namespace Cert.Proof.KernI

open Cert.KernelIdeal Cert.KernelIdeal.Gen

open Idealize.ShloMosaic Idealize.ShloMosaic.TcCoe Idealize.ShloMosaic.Tactic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F] [∀ e, Nonempty (Elt F e)]

local notation "𝕄" => MT nD τ sig (HIx 1) (Elt F) ℕ UU ℕ

/-- The pipeline takes no prefetched table. -/
abbrev adm (p : Fin 1) : (pcfgs (F := F) p).Adm := (cfgs p).toPCfg_adm

/-- The region's proof data as the launch takes it, one pipeline. -/
def rdats (V : (c : Dev nD) → (b : Ref sig .tc) → Buf (Elt F) ((c : Thread nD τ).loc b)) (B : Set (SemLoc sig × HIx 1)) :
    (p : Fin 1) → (c : Dev nD) → RDat τ (Elt F) (HIx 1) ℕ UU ℕ (Pipeline.pin (pcfgs (F := F)) adm p) c
  | 0, c => rdat V B c

variable (W₀ : Dev nD → Valuation τ sig (Elt F)) (B : Set (SemLoc sig × HIx 1))

/-- The valuation read at the TensorCore's references. -/
abbrev Vw : (c : Dev nD) → (b : Ref sig .tc) → Buf (Elt F) ((c : Thread nD τ).loc b) := fun c b => W₀ c b

/-- The valuation the region leaves: the result's array at `v`. -/
def Wout (c : Dev nD) (v : Vec F S1x1 .f32) : Valuation τ sig (Elt F) := Function.update (W₀ c) (Proc.devRef .tc main_v4) v

/-- The result's array whole after the write-back at the last point. -/
theorem whole4 : (cfg1.win 4).WholeAt ⟨24, by decide⟩ := by decide

/-- The result's array at the region's end is the loss, over some words past the features' end. -/
theorem result_eq (c : Dev nD) (G : Buf (Elt F) ((c : Thread nD τ).loc main_v4)) (hG : (rdat (Vw W₀) B c).ArrAt 4 cfg1.N G) :
    ∃ d, G = ((fun _ => lossAt (vx (Vw W₀) c) (vg (Vw W₀) c) (vt (Vw W₀) c) (vf (Vw W₀) c) d) : Vec F S1x1 .f32) := by
  obtain ⟨X, hX, hA⟩ := RDat.ArrAt.emb_eq_of_wholeAt (rd := rdat (Vw W₀) B c) hG whole4
  obtain ⟨Y, hY, h⟩ := hX
  obtain ⟨d, hd⟩ := h rfl
  refine ⟨d, funext fun j => ?_⟩
  have := hA j
  rw [hd] at this
  exact this

set_option backward.isDefEq.respectTransparency.types false in
/-- The arrays as the region leaves them, put back among the unscoped buffers. -/
theorem join (c : Dev nD) :
    iprop((bigSep Finset.univ fun w : Fin cfg1.W => iprop(∃ G, ⌜(rdat (Vw W₀) B c).ArrAt w cfg1.N G⌝
        ∗ (((c : Thread nD τ).loc (Pipeline.arrRef spec1 w)) ↦{fullShare} G : sProp 𝕄)))
      ∗ Pipeline.unscopedRest (Ix := HIx 1) (Name := ℕ) (U := UU) (Lvl := ℕ) spec1 c (Vw W₀ c))
    ⊢ iprop(∃ d, unscopedBufs c (fun b => Wout W₀ c (fun _ => lossAt (vx (Vw W₀) c) (vg (Vw W₀) c) (vt (Vw W₀) c) (vf (Vw W₀) c) d) b)) := by
  have hne : ∀ v (b : Ref sig .tc), b ≠ main_v4 → Wout W₀ c v b = W₀ c b := fun v b h => Function.update_of_ne (StableHlo.devRef_ne_of_ne h) ..
  have heq : ∀ v, Wout W₀ c v main_v4 = v := fun v => Function.update_self ..
  have hrest : ∀ v, (Pipeline.unscopedRest (Ix := HIx 1) (Name := ℕ) (U := UU) (Lvl := ℕ) spec1 c (fun b => Wout W₀ c v b) : sProp 𝕄)
      = Pipeline.unscopedRest (Ix := HIx 1) (Name := ℕ) (U := UU) (Lvl := ℕ) spec1 c (Vw W₀ c) := fun v => by
    unfold Pipeline.unscopedRest
    exact bigSep_congr fun b hb => congrArg (fun f => ((c : Thread nD τ).loc b ↦{fullShare} f : sProp 𝕄))
      (hne v b fun h => (Finset.mem_sdiff.mp hb).2 (h ▸ Finset.mem_image.mpr ⟨4, Finset.mem_univ _, rfl⟩))
  have hsplit : ∀ v, (unscopedBufs c (fun b => Wout W₀ c v b) : sProp 𝕄) = iprop((bigSep Finset.univ fun w : Fin cfg1.W =>
      (((c : Thread nD τ).loc (Pipeline.arrRef spec1 w)) ↦{fullShare} Wout W₀ c v (Pipeline.arrRef spec1 w) : sProp 𝕄))
      ∗ Pipeline.unscopedRest (Ix := HIx 1) (Name := ℕ) (U := UU) (Lvl := ℕ) spec1 c (Vw W₀ c)) := fun v => by
    rw [Pipeline.unscopedBufs_split (Pipeline.pin (pcfgs (F := F)) adm) 0 (launch1).win.arr_unscoped (launch1).win.arr_inj c]
    exact congrArg (fun R => iprop(_ ∗ R)) (hrest v)
  simp only [bigSep_W1]
  iintro ⟨⟨⟨%G0, %h0, H0⟩, ⟨%G1, %h1, H1⟩, ⟨%G2, %h2, H2⟩, ⟨%G3, %h3, H3⟩, ⟨%G4, %h4, H4⟩⟩, Hr⟩
  have e0 := (congrFun ((rdat (Vw W₀) B c).ArrAt_in 0 rfl cfg1.N) G0).mp h0
  have e1 := (congrFun ((rdat (Vw W₀) B c).ArrAt_in 1 rfl cfg1.N) G1).mp h1
  have e2 := (congrFun ((rdat (Vw W₀) B c).ArrAt_in 2 rfl cfg1.N) G2).mp h2
  have e3 := (congrFun ((rdat (Vw W₀) B c).ArrAt_in 3 rfl cfg1.N) G3).mp h3
  obtain ⟨d, e4⟩ := result_eq W₀ B c G4 h4
  subst e0 e1 e2 e3 e4
  iexists d
  rw [hsplit, bigSep_W1]
  isplitr [Hr]; swap; · iexact Hr
  isplitl [H0]; · rw [show Wout W₀ c _ (Pipeline.arrRef spec1 0) = _ from hne _ main_arg0 (by decide)]; iexact H0
  isplitl [H1]; · rw [show Wout W₀ c _ (Pipeline.arrRef spec1 1) = _ from hne _ main_v2 (by decide)]; iexact H1
  isplitl [H2]; · rw [show Wout W₀ c _ (Pipeline.arrRef spec1 2) = _ from hne _ main_v3 (by decide)]; iexact H2
  isplitl [H3]; · rw [show Wout W₀ c _ (Pipeline.arrRef spec1 3) = _ from hne _ main_arg2 (by decide)]; iexact H3
  rw [show Wout W₀ c _ (Pipeline.arrRef spec1 4) = _ from heq _]; iexact H4

set_option backward.isDefEq.respectTransparency.types false in
/-- The region, from every unscoped buffer at `W₀` and the core owing nothing, to the same with the result's array at the loss. -/
def reg (L : GSem nD τ sig → Finset (HIx 1)) (lv : GSem nD τ sig → HIx 1 → ℕ) :
    Pipeline.RDat.RegionSeg (pcfgs (F := F)) adm (rdats (Vw W₀) B) none defs₀ 𝒱₀ L lv 0 where
  win := (launch1).win.to₀
  block_pos := (launch1).block_pos
  stage_whole := (launch1).stage_whole
  K := PEmpty
  osem k := k.elim
  ho := Pipeline.OwnSemFacts.none _
  hbody c := body_obligation (Vw W₀) B none c
  hwaits := Pipeline.RDat.hwaits_of_owed_zero _ _ _ _ L lv 0 fun _ _ => rfl
  pre c := iprop(unscopedBufs c (fun b => W₀ c b) ∗ ∃ W : Waits sig (HIx 1), ⌜∀ p ∈ W, p ∈ B⌝ ∗ owes (c : Thread nD τ) (0 : CellTallies nD τ sig (HIx 1)) W)
  post c := iprop((∃ d, unscopedBufs c (fun b => Wout W₀ c (fun _ => lossAt (vx (Vw W₀) c) (vg (Vw W₀) c) (vt (Vw W₀) c) (vf (Vw W₀) c) d) b))
    ∗ ∃ W : Waits sig (HIx 1), ⌜∀ p ∈ W, p ∈ B ∨ p.2 = none⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (Vw W₀ c)
  hentry c := by
    rw [Pipeline.ownSems0_none]
    have hsplit := Pipeline.RDat.arrays_of_unscopedBufs (p := 0) (pcfgs (F := F)) adm (rdats (Vw W₀) B) (launch1).win (launch1).arr_whole c
      ((rdats (Vw W₀) B 0 c).share_full fun _ => rfl) (Vw W₀ c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (hW p hp)
      iexact HO
    isplitr; · iempintro
    iexact Hrest
  hin c := by
    rw [show (rdats (Vw W₀) B 0 c).Φ 0 = Φr (Vw W₀) c 0 from rfl]
    unfold Φr
    rw [if_pos (Or.inl rfl)]
    iintro ⟨-, -, Hr⟩; iexact Hr
  hout c := by
    rw [Pipeline.ownSems0_none, show (rdats (Vw W₀) B 0 c).Φ (Fin.last _) = Φr (Vw W₀) c 25 from rfl]
    unfold Φr
    rw [if_pos (Or.inr rfl)]
    iintro Hr
    isplitr; · iempintro
    isplitr; · iempintro
    iexact Hr
  hexit c := by
    rw [Pipeline.RDat.arraysAt_eq (pcfgs (F := F)) adm (rdats (Vw W₀) B) (p := 0) c (launch1).arr_whole ((rdats (Vw W₀) B 0 c).share_full fun _ => rfl)]
    iintro ⟨Ha, HO, -, Hrest⟩
    imodintro
    isplitl [Ha Hrest]
    · ihave H := (join W₀ B c) $$ [Ha Hrest]
      · isplitl [Ha]; · iexact Ha
        iexact Hrest
      iexact H
    unfold Pipeline.RDat.owesAt Pipeline.owesWithin
    icases HO with ⟨%W, %hW, HO⟩; iexists W
    isplitr; swap; · iexact HO
    ipureintro
    intro p hp
    rcases hW hp with h | ⟨w, s, h⟩
    · exact Or.inl h
    · right; rw [h]

end Cert.Proof.KernI

end
-- ==== Proof.HostI.lean ====
/-
  The host's operations of @main around the two kernels, as lists, and what the buffers hold after each stretch.
-/
module

public import proofs.«01_k».proof.Proof.RegionI

@[expose] public section

noncomputable section

namespace Cert.Proof.KernI

open Cert.KernelIdeal Cert.KernelIdeal.Gen

open Idealize.ShloMosaic Idealize.ShloMosaic.TcCoe Idealize.ShloMosaic.Tactic
open Idealize.ShloMosaic.StableHlo
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [∀ e, Nonempty (Elt F e)]

local notation "𝕄" => MT nD τ sig (HIx 1) (Elt F) ℕ UU ℕ

/-! ## The operations -/

/-- Before the SparseCore's call: the features reshaped, half of every target. -/
abbrev ops1 : List (HloOp τ sig (Elt F)) :=
  [ reshape main_arg2 main_v0 (rfl : (.f32 : EltTy) = .f32) shapeCasts_S100000x64_S50000x128,
    nullary main_c (constantI S_ 32 2#32),
    TRef.unary (.of main_c : TRef sig ⟨S_, .i32⟩) main_call0.v0 id,
    TRef.unary main_call0.v0 main_call0.v1 (broadcastInDim S1024 ![] bcast_S_S1024),
    TRef.binary (.of main_arg1 : TRef sig ⟨S1024, .i32⟩) main_call0.v1 main_call0.v2 Host.divsi,
    TRef.unary (.of main_arg1 : TRef sig ⟨S1024, .i32⟩) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_arg1 : TRef sig ⟨S1024, .i32⟩) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select ]

/-- Between the two kernels: the targets as a column. -/
abbrev op2 : HloOp τ sig (Elt F) := reshape main_arg1 main_v3 (rfl : (.i32 : EltTy) = .i32) shapeCasts_S1024_S1024x1
/-- After the region: the loss as a scalar. -/
abbrev op3 : HloOp τ sig (Elt F) := reshape main_v4 main_v5 (rfl : (.f32 : EltTy) = .f32) shapeCasts_S1x1_S_

/-- @main is the first stretch, the SparseCore's call, an operation, the region, an operation. -/
theorem main_eq (d : Dev nD) : main (F := F) d = seq ops1 >>= fun _ => sc.run d 0 >>= fun _ =>
    hlo rfl op2 (fun _ => .ret PUnit.unit) >>= fun _ => Prog.lift (.customCall (SparseCore.inner (Pipeline.entry 0)) ()) >>= fun _ =>
    hlo rfl op3 (fun _ => .ret PUnit.unit) >>= fun _ => pure ⟨⟩ := rfl

omit [∀ e, Nonempty (Elt F e)] in
theorem ops1_sub : (ops1 : List (HloOp τ sig (Elt F))).Forall fun op => op.bufs ⊆ tcRefs τ sig :=
  ⟨reshape_bufs_sub .., nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩
omit [∀ e, Nonempty (Elt F e)] in
theorem ops1_fresh : (ops1 : List (HloOp τ sig (Elt F))).Forall fun op => op.fresh = ∅ := by
  repeat first | exact rfl | refine ⟨rfl, ?_⟩

/-! ## What they compute -/

/-- Half of every target, rounded down, as @main computes it: the quotient rounded to zero, less one where the signs differ and
    the remainder is not zero. -/
def halves (t : IVec S1024 32) : IVec S1024 32 :=
  select (andi (cmpi .ne (signi t) (broadcastInDim S1024 ![] bcast_S_S1024 (signi (constantI S_ 32 2#32))))
      (cmpi .ne (Host.remsi t (broadcastInDim S1024 ![] bcast_S_S1024 (constantI S_ 32 2#32))) (broadcastInDim S1024 ![] bcast_S_S1024 (constantI S_ 32 0#32))))
    (subi (Host.divsi t (broadcastInDim S1024 ![] bcast_S_S1024 (constantI S_ 32 2#32))) (broadcastInDim S1024 ![] bcast_S_S1024 (constantI S_ 32 1#32)))
    (Host.divsi t (broadcastInDim S1024 ![] bcast_S_S1024 (constantI S_ 32 2#32)))

variable (V : Valuation τ sig (Elt F))

theorem ops1_v0 : after ops1 V main_v0 = (shapeCast S50000x128 (V main_arg2 : Vec F S100000x64 .f32) shapeCasts_S100000x64_S50000x128 : Vec F S50000x128 .f32) := by
  simp only [ops1, TRef.binary, TRef.nullary, TRef.reshape, TRef.ternary, TRef.unary, TRef.toBuf, TRef.ofBuf, cast_eq]; after_results_simp <;> rfl
theorem ops1_v1 : after ops1 V main_v1 = (halves (V main_arg1) : IVec S1024 32) := by
  simp only [ops1, TRef.binary, TRef.nullary, TRef.reshape, TRef.ternary, TRef.unary, TRef.toBuf, TRef.ofBuf, cast_eq]; after_results_simp <;> rfl
theorem ops1_arg0 : after ops1 V main_arg0 = V main_arg0 := by
  simp only [ops1, TRef.binary, TRef.nullary, TRef.reshape, TRef.ternary, TRef.unary, TRef.toBuf, TRef.ofBuf, cast_eq]; after_results_simp <;> rfl
theorem ops1_arg1 : after ops1 V main_arg1 = V main_arg1 := by
  simp only [ops1, TRef.binary, TRef.nullary, TRef.reshape, TRef.ternary, TRef.unary, TRef.toBuf, TRef.ofBuf, cast_eq]; after_results_simp <;> rfl
theorem ops1_arg2 : after ops1 V main_arg2 = V main_arg2 := by
  simp only [ops1, TRef.binary, TRef.nullary, TRef.reshape, TRef.ternary, TRef.unary, TRef.toBuf, TRef.ofBuf, cast_eq]; after_results_simp <;> rfl

end Cert.Proof.KernI

end
-- ==== Proof.TileI.lean ====
/-
  One task of the SparseCore's call: it copies its 32 row numbers in, streams the rows they name out of
  the table, and copies the 32 rows out. What it leaves is stated by value: its block of the output holds
  the gathered rows.
-/
module

public import proofs.«01_k».proof.Proof.SetupI

@[expose] public section

noncomputable section

namespace Cert.Proof.KernI

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S50000x128 EltTy.f32)
local notation "iV" => (Memref.whole Cert.KernelIdeal.main_v1_scv : Memref Cert.KernelIdeal.sig Kind.scVector Space.hbm Cert.KernelIdeal.S1024 EltTy.i32)
local notation "oV" => (Memref.whole Cert.KernelIdeal.main_v2_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

/-! ## The blocks of 32 rows, one per task -/

theorem idiv : 32 ∣ S1024.size 0 := ⟨32, rfl⟩
theorem odiv : 32 ∣ S1024x128.size 0 := ⟨32, rfl⟩
abbrev iblk (n : Fin 32) : Rect S1024 := Rect.part (s := S1024) (a₀ := 0) idiv n
abbrev oblk (n : Fin 32) : Rect S1024x128 := Rect.part (s := S1024x128) (a₀ := 0) odiv n
abbrev iSet (n : Fin 32) : Finset S1024.Idx := ((iV).view.slice (iblk n)).set
abbrev oSet (n : Fin 32) : Finset S1024x128.Idx := ((oV).view.slice (oblk n)).set

/-- Task `n`'s share of the table: one of 32 pieces of the whole share. -/
abbrev tq (n : Fin 32) : PosShare TreeShare := pieceOf fullShare 32 (by decide) n

variable [FloatOps F] [Named F]

/-! ## What a task takes and what it brings back -/

variable (tab : (d : Dev nD) → Buf (Elt F) (tLoc d)) (idx : (d : Dev nD) → Buf (Elt F) (iLoc d)) (out : (d : Dev nD) → Buf (Elt F) (oLoc d))

/-- Task `n` takes its block of the list, a share of the table, and its block of the output at `o`. -/
abbrev piece (o : (d : Dev nD) → Buf (Elt F) (oLoc d)) (d : Dev nD) (n : Fin 32) : sProp 𝕄 :=
  iprop((iLoc d ↦[iSet n]{fullShare} idx d) ∗ (tLoc d ↦{tq n} tab d) ∗ (oLoc d ↦[oSet n]{fullShare} o d))

/-- Every word of the list names a row of the table. -/
def ListOK : Prop := ∀ (d : Dev nD) (j : S1024.Idx), (idx d j).toNat < 50000

/-- The gathered rows of device `d`. -/
abbrev gat (d : Dev nD) : Buf (Elt F) (oLoc d) := gathered (tab d) (idx d)

section Tile

variable (d : Dev nD) (L : grid0.Coords)

abbrev cV (L : grid0.Coords) : Fin τ.nSC := (L 0).castLE hcore0
abbrev jV (L : grid0.Coords) : Fin τ.nSub := (L 1).castLE hsub0
/-- The number of the task on core `L 0`, subcore `L 1`. -/
def num (L : grid0.Coords) : Fin 32 := ⟨2 * (L 1).val + (L 0).val, by
  have h0 : (L 0).val < 2 := (L 0).isLt
  have h1 : (L 1).val < 16 := (L 1).isLt
  omega⟩

abbrev irectK (L : grid0.Coords) : Rect S1024 := Rect.unit (s := S1024) (k0_off1 L) S32.size (k0_off1_inb L)
abbrev orectK (L : grid0.Coords) : Rect S1024x128 := Rect.unit (s := S1024x128) (k0_off2 L) S32x128.size (k0_off2_inb L)
/-- The task's block of the list, of the output, and the table, as the task addresses them. -/
abbrev iK (L : grid0.Coords) : Memref sig .scVector .hbm S32 .i32 := (iV).slice (irectK L) (fun _ => rfl)
abbrev oK (L : grid0.Coords) : Memref sig .scVector .hbm S32x128 .f32 := (oV).slice (orectK L) (fun _ => rfl)
abbrev tK : Memref sig .scVector .hbm S50000x128 .f32 :=
  (tV).slice (Rect.unit (s := S50000x128) ![0, 0] S50000x128.size inb_S50000x128_S50000x128_0_0) (fun _ => rfl)

omit [FloatOps F] [Named F] in
theorem irectK_eq : irectK L = iblk (num L) := by
  unfold irectK iblk Rect.part Rect.block
  congr 1 <;> funext a
  · rw [k0_off1_eq]
    match a with
    | 0 => simp [Shape.partIx, Shape.partSize, num]; omega
  · match a with
    | 0 => simp [Shape.partSize]
omit [FloatOps F] [Named F] in
theorem orectK_eq : orectK L = oblk (num L) := by
  unfold orectK oblk Rect.part Rect.block
  congr 1 <;> funext a
  · rw [k0_off2_eq]
    match a with
    | 0 => simp [Shape.partIx, Shape.partSize, num]; omega
    | 1 => simp [Shape.partIx, Shape.partSize]
  · match a with
    | 0 => simp [Shape.partSize]
    | 1 => simp [Shape.partSize]

omit [FloatOps F] [Named F] in
theorem set_iK : (iK L).view.set = iSet (num L) := by
  show ((iV).view.slice (irectK L)).set = ((iV).view.slice (iblk (num L))).set
  exact irectK_eq L ▸ rfl
omit [FloatOps F] [Named F] in
theorem set_oK : (oK L).view.set = oSet (num L) := by
  show ((oV).view.slice (orectK L)).set = ((oV).view.slice (oblk (num L))).set
  exact orectK_eq L ▸ rfl

omit [FloatOps F] [Named F] in
theorem pts_iK (f : Buf (Elt F) (iLoc d)) :
    ((iK L).view.loc (V d (cV L) (jV L)) ↦[(iK L).view.set]{fullShare} f : sProp 𝕄) = iLoc d ↦[iSet (num L)]{fullShare} f := by
  rw [set_iK]
omit [FloatOps F] [Named F] in
theorem pts_oK (f : Buf (Elt F) (oLoc d)) :
    ((oK L).view.loc (V d (cV L) (jV L)) ↦[(oK L).view.set]{fullShare} f : sProp 𝕄) = oLoc d ↦[oSet (num L)]{fullShare} f := by
  rw [set_oK]
omit [FloatOps F] [Named F] in
theorem pts_tV (q : PosShare TreeShare) (f : Buf (Elt F) (tLoc d)) :
    ((tV).view.loc (V d (cV L) (jV L)) ↦{q} f : sProp 𝕄) = tLoc d ↦{q} f := rfl
omit [FloatOps F] [Named F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] [Named F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev gCell (d : Dev nD) (c : Fin τ.nSC) (i : Fin τ.nSub) : GSem nD τ sig := (V d c i, .dma cc0_scratch2.sem)
abbrev inCell (d : Dev nD) (c : Fin τ.nSC) (i : Fin τ.nSub) : GSem nD τ sig := (V d c i, .dma cc0_scoped0.sem)
abbrev outCell (d : Dev nD) (c : Fin τ.nSC) (i : Fin τ.nSub) : GSem nD τ sig := (V d c i, .dma cc0_scoped1.sem)

omit [FloatOps F] [Named F] in
/-- The three semaphores of the task's copies are among the subcore's own. -/
theorem ownSems0_V :
    (ownSems0 (V d (cV L) (jV L)) : sProp 𝕄)
      = iprop(semVal (gCell d (cV L) (jV L)) 0 ∗ semVal (inCell d (cV L) (jV L)) 0 ∗ semVal (outCell d (cV L) (jV L)) 0
          ∗ bigSep ((((ownCells (V d (cV L) (jV L))).erase (gCell d (cV L) (jV L))).erase (inCell d (cV L) (jV L))).erase (outCell d (cV L) (jV L))) fun g => semVal g 0) := by
  have mem : ∀ s : DmaSems sig S_, (SemLoc.dma s.sem : SemLoc sig).isScoped .scVector = true →
      ((V d (cV L) (jV L), SemLoc.dma s.sem) : GSem nD τ sig) ∈ ownCells (V d (cV L) (jV L)) := fun s h => mem_ownCells.mpr ⟨rfl, h⟩
  unfold SparseCore.Cfg.ownSems0
  rw [SparseCore.bigSep_erase' (mem cc0_scratch2 (by decide)),
    SparseCore.bigSep_erase' (Finset.mem_erase.mpr ⟨by simp [gCell, inCell]; decide, mem cc0_scoped0 (by decide)⟩),
    SparseCore.bigSep_erase' (Finset.mem_erase.mpr ⟨by simp [inCell, outCell]; decide, Finset.mem_erase.mpr ⟨by simp [gCell, outCell]; decide, mem cc0_scoped1 (by decide)⟩⟩)]

omit [FloatOps F] [Named F] in
/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] [Named F] in
/-- The list's block read through the task's view: the words of its 32 positions. -/
theorem iK_read (f : Buf (Elt F) (iLoc d)) (j : S32.Idx) : (iK L).view.read (Elt F) f j = f ((iK L).view.emb j) :=
  (View.read_apply _ _).trans (cast_eq _ _)

/-- The row numbers in the task's scratch are in range. -/
theorem inb_of_list (hok : ListOK idx) (fs : Buf (Elt F) ((V d (cV L) (jV L)).loc cc0_scratch0)) (pay : S32.Idx → Elt F .i32)
    (hpay : pay = (iK L).view.read (Elt F) (idx d)) :
    ∀ x, ((sV).view.read (Elt F) (View.write (Elt F) (sV).view fs pay Finset.univ) x).toNat < S50000x128.size gathers_S50000x128_S32x128.axis := by
  subst hpay; intro x
  rw [View.write_whole_univ]
  simp only [Memref.view_whole, View.read_whole]
  rw [iK_read]
  exact hok d _

omit [FloatOps F] [Named F] in
/-- An element of the task's output block lies in its row and its column. -/
theorem oK_emb (x : S32x128.Idx) : (((oK L).view.emb x) 0).val = 64 * (L 1).val + 32 * (L 0).val + (x 0).val ∧ (((oK L).view.emb x) 1).val = (x 1).val := by
  have h := k0_off2_eq L
  constructor
  · show k0_off2 L 0 + 1 * (x 0).val = _
    rw [h]; simp
  · show k0_off2 L 1 + 1 * (x 1).val = _
    rw [h]; simp
omit [FloatOps F] [Named F] in
/-- A position of the task's list block. -/
theorem iK_emb (x : S32.Idx) : (((iK L).view.emb x) 0).val = 64 * (L 1).val + 32 * (L 0).val + (x 0).val := by
  have h := k0_off1_eq L
  show k0_off1 L 0 + 1 * (x 0).val = _
  rw [h]; simp
omit [FloatOps F] [Named F] in
/-- The table read through the task's view is the table. -/
theorem tK_read (f : Buf (Elt F) (tLoc d)) (j : S50000x128.Idx) : (tK).view.read (Elt F) f j = f j := by
  refine (View.read_apply _ _).trans ((cast_eq _ _).trans (congrArg f (funext fun a => Fin.ext ?_)))
  show (![0, 0] : Fin 2 → ℕ) a + 1 * (j a).val = _
  match a with
  | 0 => simp
  | 1 => simp

/-- What the task's output block holds after the copy out, the row numbers fetched and the rows they name streamed:
    the gathered rows. -/
theorem out_gathered (hok : ListOK idx) (fo : Buf (Elt F) (oLoc d)) (lst : S32.Idx → Elt F .i32) (hlst : ∀ x, lst x = (iK L).view.read (Elt F) (idx d) x)
    (hn : S32.numel = S32x128.size gathers_S50000x128_S32x128.axis')
    (hin : ∀ x, (lst x).toNat < S50000x128.size gathers_S50000x128_S32x128.axis) (pay : S32x128.Idx → Elt F .f32)
    (hpay : pay = SparseCore.gatherPayload gathers_S50000x128_S32x128 ((tK).view.read (Elt F) (tab d)) (SparseCore.rows lst hn hin))
    (j : S1024x128.Idx) (hj : j ∈ (oK L).view.set) :
    (View.write (Elt F) (oK L).view fo pay Finset.univ) j = gat tab idx d j := by
  obtain ⟨x, -, rfl⟩ := Finset.mem_map.mp hj
  refine (View.write_emb_of_mem (v := (oK L).view) (Val := Elt F) fo pay (Finset.mem_univ x)).trans ((cast_eq _ _).trans ?_)
  rw [hpay]
  unfold SparseCore.gatherPayload gat gathered
  rw [tK_read (F := F) d]
  congr 1
  obtain ⟨h0, h1⟩ := oK_emb L x
  funext a
  match a with
  | 0 =>
    refine (Shape.Gathers.idx_axis gathers_S50000x128_S32x128 _ x).trans (Fin.ext ?_)
    show (lst _).toNat = (idx d _).toNat % 50000
    rw [hlst, iK_read, Nat.mod_eq_of_lt (hok d _)]
    congr 2
    funext b
    match b with
    | 0 =>
      refine Fin.ext ?_
      rw [iK_emb]
      refine Eq.trans ?_ h0.symm
      congr 1
      have := congrArg Fin.val (S32.rowMajor.apply_symm_apply ((x 0).cast hn.symm))
      rw [Shape.rowMajor_val_one] at this
      exact this
  | 1 =>
    refine Fin.ext ?_
    refine (Shape.Gathers.idx_of_ne gathers_S50000x128_S32x128 _ x 1 (by decide)).trans ?_
    exact h1.symm

end Tile

end Cert.Proof.KernI

end
-- ==== Proof.TileRunI.lean ====
/-
  The run of one task of the SparseCore's call.
-/
module

public import proofs.«01_k».proof.Proof.TileI

@[expose] public section

noncomputable section

namespace Cert.Proof.KernI

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S50000x128 EltTy.f32)
local notation "iV" => (Memref.whole Cert.KernelIdeal.main_v1_scv : Memref Cert.KernelIdeal.sig Kind.scVector Space.hbm Cert.KernelIdeal.S1024 EltTy.i32)
local notation "oV" => (Memref.whole Cert.KernelIdeal.main_v2_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable [FloatOps F] [Named F]
variable (tab : (d : Dev nD) → Buf (Elt F) (tLoc d)) (idx : (d : Dev nD) → Buf (Elt F) (iLoc d)) (out : (d : Dev nD) → Buf (Elt F) (oLoc d))

section Tile

variable (d : Dev nD) (L : grid0.Coords)

/-- `out_gathered` of the copies as the run records them: the row numbers through the list's own buffer, the rows through
    the row buffer, the block written whole. -/
theorem out_written (hok : ListOK idx) (fo : Buf (Elt F) (oLoc d)) (lst0 : S32.Idx → Elt F .i32)
    (fs : Buf (Elt F) ((sV).view.loc (V d (cV L) (jV L)))) (fr : Buf (Elt F) ((rV).view.loc (V d (cV L) (jV L))))
    (hl0 : lst0 = (iK L).view.read (Elt F) (idx d))
    (hn : S32.numel = S32x128.size gathers_S50000x128_S32x128.axis')
    (hin : ∀ x, ((sV).view.read (Elt F) (View.write (Elt F) (sV).view fs lst0 Finset.univ) x).toNat < S50000x128.size gathers_S50000x128_S32x128.axis)
    (pay : S32x128.Idx → Elt F .f32)
    (hpay : pay = ReadAs.same.apply ((rV).view.read (Elt F) (View.write (Elt F) (rV).view fr
      (SparseCore.gatherPayload gathers_S50000x128_S32x128 ((tK).view.read (Elt F) (tab d))
        (SparseCore.rows ((sV).view.read (Elt F) (View.write (Elt F) (sV).view fs lst0 Finset.univ)) hn hin)) Finset.univ)))
    (j : S1024x128.Idx) (hj : j ∈ (oK L).view.set) :
    (oK L).view.writes (Elt F) fo [⟨Rect.whole S32x128, pay⟩] j = gat tab idx d j := by
  have hw : (oK L).view.writes (Elt F) fo [⟨Rect.whole S32x128, pay⟩] j = View.write (Elt F) (oK L).view fo pay Finset.univ j := by
    obtain ⟨x, -, rfl⟩ := Finset.mem_map.mp hj
    have e : (oK L).view.emb x = ((oK L).view.slice (Rect.whole S32x128)).emb x := by simp
    rw [View.writes_singleton, View.write_emb_of_mem _ _ (Finset.mem_univ x)]
    rw [e]
    exact View.write_emb_of_mem (v := (oK L).view.slice (Rect.whole S32x128)) _ _ (Finset.mem_univ x)
  rw [hw]
  refine out_gathered tab idx d L hok fo _ ?_ hn hin pay ?_ j hj
  · intro x
    rw [View.read_write_univ, hl0]
  · rw [hpay]
    exact View.read_write_univ _ _

set_option maxHeartbeats 400000 in
/-- The task on vector subcore `(L 0, L 1)` of device `d`: from its piece of the call's operands, its scratch and its
    semaphores it runs to its end and brings the piece back, its block of the output at the gathered rows. -/
theorem tile_body (hF : (K (F := F)).Facts) (hok : ListOK idx) (O : CellTallies nD τ sig (HIx 1)) (W : Waits sig (HIx 1)) (hO : ∀ g, O g none = 0) :
    iprop(levAts (K (F := F)).L (K (F := F)).lev ∗ emp
        ∗ piece tab idx out d (num L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L tV (Memref.isWhole_whole _) iV (Memref.isWhole_whole _) oV (Memref.isWhole_whole _)
            sV (Memref.isWhole_whole _) rV (Memref.isWhole_whole _) cc0_scratch2 cc0_scoped0 cc0_scoped1)
          fun _ => iprop(piece tab idx (gat tab idx) d (num L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  ihave Hts := (pointsTo_split_subset (q := tq (num L)) (f := tab d) (S := Finset.univ) (Finset.subset_univ (tK).view.set)).1 $$ Ht'
  icases Hts with ⟨Hts, Htr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 idx d L) Finset.univ : sProp 𝕄)
      = (sV).view.loc (V d (cV L) (jV L)) ↦[(sV).view.set]{fullShare} View.write (Elt F) (sV).view fs (tile_body.sl.dma0 idx d L) Finset.univ
      by rw [hss])) $$ Hs'
  have hN : ∀ h : S50000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S50000x128_S32x128) (default : HIx 1)
      (rV).view.dmaCredit (hN _) (by decide) (inb_of_list idx d L hok fs _ rfl)) $$ [Hts Hr'' Hs'' HsemG]
  · isplitl [Hts]; · iexact Hts
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hts, Hs'⟩, HsemG, HO⟩
  ihave Ht' := (pointsTo_split_subset (q := tq (num L)) (f := tab d) (S := Finset.univ) (Finset.subset_univ (tK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Ht' Ho']
  · isplitl [Hi']; · iapply (Entails.of_eq (pts_iK (F := F) d L _)); iexact Hi'
    isplitl [Ht']; · iexact Ht'
    iapply (Entails.of_eq (pts_oK (F := F) d L _))
    ihave Ho2 := (Entails.of_eq (pointsTo_congr (fun j hj => out_written tab idx d L hok _ _ fs fr rfl _ _ _ rfl j hj))) $$ Ho'
    iexact Ho2
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernI

end
-- ==== Proof.CallI.lean ====
/-
  The SparseCore call seen from the TensorCore: what each SparseCore and each of its tasks is handed and hands
  back, the tasks' obligations, and how the whole arrays split into the tasks' pieces.
-/
module

public import proofs.«01_k».proof.Proof.TileRunI

@[expose] public section

noncomputable section

namespace Cert.Proof.KernI

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

local notation "tV" => (Memref.whole Cert.KernelIdeal.main_v0_scv : Memref Cert.KernelIdeal.sig Kind.scVector Space.hbm Cert.KernelIdeal.S50000x128 EltTy.f32)
local notation "iV" => (Memref.whole Cert.KernelIdeal.main_v1_scv : Memref Cert.KernelIdeal.sig Kind.scVector Space.hbm Cert.KernelIdeal.S1024 EltTy.i32)
local notation "oV" => (Memref.whole Cert.KernelIdeal.main_v2_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "rV" => (Memref.whole Cert.KernelIdeal.cc0_scratch1 : Memref Cert.KernelIdeal.sig Kind.scVector Space.vmem Cert.KernelIdeal.S32x128 EltTy.f32)

variable (tab : (d : Dev nD) → Buf (Elt F) (tLoc d)) (idx : (d : Dev nD) → Buf (Elt F) (iLoc d)) (out : (d : Dev nD) → Buf (Elt F) (oLoc d))

/-- The number of the task of subcore `s` of SparseCore `c`. -/
def taskNo (c : Fin 2) (s : Fin 16) : Fin 32 := ⟨2 * s.val + c.val, by omega⟩

/-- The 32 tasks, by SparseCore and subcore. -/
def taskEquiv : Fin 2 × Fin 16 ≃ Fin 32 where
  toFun p := taskNo p.1 p.2
  invFun n := (⟨n.val % 2, by omega⟩, ⟨n.val / 2, by omega⟩)
  left_inv p := by
    obtain ⟨⟨c, hc⟩, ⟨s, hs⟩⟩ := p
    refine Prod.ext (Fin.ext ?_) (Fin.ext ?_)
    · show (2 * s + c) % 2 = c
      omega
    · show (2 * s + c) / 2 = s
      omega
  right_inv n := by
    refine Fin.ext ?_
    show 2 * (n.val / 2) + n.val % 2 = n.val
    omega

/-- What the handshakes carry: each task its piece, each SparseCore its sixteen tasks' pieces. -/
def P : (K (F := F)).Pay (nD := nD) (Val := Elt F) (Name := ℕ) (U := UU) where
  st := fun q d c => match q with | 0 => bigSep Finset.univ fun i : Fin 16 => piece tab idx out d (taskNo c i)
  dn := fun q d c => match q with | 0 => bigSep Finset.univ fun i : Fin 16 => piece tab idx (gat tab idx) d (taskNo c i)
  go := fun q d c i => match q with | 0 => piece tab idx out d (taskNo c i)
  td := fun q d c i => match q with | 0 => piece tab idx (gat tab idx) d (taskNo c i)
  x := fun _ _ => iprop(emp)

instance P_storable : (P tab idx out).IsStorable where
  st q d c := match q with
    | 0 => (inferInstance : BI.Storable (upEmb : UEmb _ 𝕄) (bigSep Finset.univ fun i : Fin 16 => piece tab idx out d (taskNo c i)))
  dn q d c := match q with
    | 0 => (inferInstance : BI.Storable (upEmb : UEmb _ 𝕄) (bigSep Finset.univ fun i : Fin 16 => piece tab idx (gat tab idx) d (taskNo c i)))
  go q d c i := match q with
    | 0 => (inferInstance : BI.Storable (upEmb : UEmb _ 𝕄) (piece tab idx out d (taskNo c i)))
  td q d c i := match q with
    | 0 => (inferInstance : BI.Storable (upEmb : UEmb _ 𝕄) (piece tab idx (gat tab idx) d (taskNo c i)))

/-! ## The tasks' obligations -/

/-- The coordinates of a task. -/
def coordsV (c : Fin (grid0.bound 0)) (s : Fin (grid0.bound 1)) : grid0.Coords :=
  fun | 0 => c | 1 => s | ⟨_ + 2, h⟩ => absurd h (Nat.not_lt.2 (Nat.le_add_left _ _))

/-- What a subcore runs: the kernel at its coordinates. -/
theorem defs₀_vector (c : Fin τ.nSC) (s : Fin τ.nSub) :
    defs₀ (F := F) (.scVector c s) 0 ()
      = SparseCore.onTile hcore0 hsub0 (fun c s => cc0_k (coordsV c s) tV (Memref.isWhole_whole _) iV (Memref.isWhole_whole _) oV (Memref.isWhole_whole _)
            sV (Memref.isWhole_whole _) rV (Memref.isWhole_whole _) cc0_scratch2 cc0_scoped0 cc0_scoped1) ⟨⟩ c s := rfl

omit [FloatOps F] [Named F] in
/-- A task that waited at no call's index has waited at none but this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task takes its piece and leaves it with its block of the output gathered. -/
theorem tileObl (hF : (K (F := F)).Facts) (hok : ListOK idx) : (K (F := F)).TileObl (D (F := F)) 𝒱 (P tab idx out) v₀ 0 := by
  intro d c i O W hO _ _
  simp only [show (P tab idx out).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab idx out d (coordsV ⟨_, hci.1⟩ ⟨_, hci.2⟩) hF hok O W hO).trans (wp_mono frame _ _ fun _ => obl_post)

/-- A SparseCore's pieces are its tasks' pieces. -/
theorem vecSplit : (K (F := F)).VecSplit' (P tab idx out) 0 := by
  intro d c
  show (bigSep Finset.univ fun i : Fin 16 => piece tab idx out d (taskNo c i)) ⊢ |={Set.univ}=> iprop(
      (bigSep Finset.univ fun i : Fin 16 => piece tab idx out d (taskNo c i))
      ∗ ((bigSep Finset.univ fun i : Fin 16 => piece tab idx (gat tab idx) d (taskNo c i))
          -∗ bigSep Finset.univ fun i : Fin 16 => piece tab idx (gat tab idx) d (taskNo c i)))
  iintro H; imodintro
  isplitl [H]; · iexact H
  iintro H; iexact H

/-! ## The arrays split into the tasks' pieces -/

omit [FloatOps F] [Named F] in
theorem iSet_eq (n : Fin 32) : iSet n = (iblk n).set := by
  show ((View.whole (main_v1_scv : Ref sig .scVector)).slice (iblk n)).set = _
  rw [View.set_slice]; exact Finset.map_refl
omit [FloatOps F] [Named F] in
theorem oSet_eq (n : Fin 32) : oSet n = (oblk n).set := by
  show ((View.whole (main_v2_scv : Ref sig .scVector)).slice (oblk n)).set = _
  rw [View.set_slice]; exact Finset.map_refl

/-- The three arrays whole are the 32 tasks' pieces. -/
theorem pieces_eq (o : (d : Dev nD) → Buf (Elt F) (oLoc d)) (d : Dev nD) :
    (iprop((iLoc d ↦{fullShare} idx d) ∗ (tLoc d ↦{fullShare} tab d) ∗ (oLoc d ↦{fullShare} o d)) : sProp 𝕄)
      = bigSep Finset.univ fun n : Fin 32 => piece tab idx o d n := by
  have hi : (iLoc d ↦{fullShare} idx d : sProp 𝕄) = bigSep Finset.univ fun n : Fin 32 => iLoc d ↦[iSet n]{fullShare} idx d := by
    rw [← pointsTo_biUnion Finset.univ (ℓ := iLoc d) iSet (fun i _ j _ h => by rw [iSet_eq, iSet_eq]; exact Rect.part_disjoint idiv h),
      (Finset.biUnion_congr rfl fun i _ => iSet_eq i).trans (Rect.biUnion_part idiv)]
  have ho : (oLoc d ↦{fullShare} o d : sProp 𝕄) = bigSep Finset.univ fun n : Fin 32 => oLoc d ↦[oSet n]{fullShare} o d := by
    rw [← pointsTo_biUnion Finset.univ (ℓ := oLoc d) oSet (fun i _ j _ h => by rw [oSet_eq, oSet_eq]; exact Rect.part_disjoint odiv h),
      (Finset.biUnion_congr rfl fun i _ => oSet_eq i).trans (Rect.biUnion_part odiv)]
  have ht : (tLoc d ↦{fullShare} tab d : sProp 𝕄) = bigSep Finset.univ fun n : Fin 32 => tLoc d ↦{tq n} tab d :=
    pointsTo_piecesOf Finset.univ (tab d) (by decide) fullShare
  rw [hi, ht, ho, bigSep_sep', bigSep_sep']

/-- The same grouped by SparseCore, as the call hands them out. -/
theorem pieces_cores (o : (d : Dev nD) → Buf (Elt F) (oLoc d)) (d : Dev nD) :
    (iprop((iLoc d ↦{fullShare} idx d) ∗ (tLoc d ↦{fullShare} tab d) ∗ (oLoc d ↦{fullShare} o d)) : sProp 𝕄)
      = bigSep Finset.univ fun c : Fin 2 => bigSep Finset.univ fun i : Fin 16 => piece tab idx o d (taskNo c i) := by
  rw [pieces_eq, BI.bigSep_univ_equiv taskEquiv, BI.bigSep_univ_prod]
  rfl

end Cert.Proof.KernI

end
-- ==== Proof.MainI.lean ====
/-
  The kernel's @main on the TensorCore, and the run of the whole program: its result is the loss that the
  region's last point stores, the features' last block read over some words.
-/
module

public import proofs.«01_k».proof.Proof.HostI
public import proofs.«01_k».proof.Proof.CallI

@[expose] public section

noncomputable section

namespace Cert.Proof.KernI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.ShloMosaic.StableHlo (after held seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

/-! ## The unscoped buffers of the TensorCore -/

/-- The TensorCore's unscoped references: what @main holds at a valuation. -/
def ucRefs : Finset (DevRef τ sig) := (StableHlo.tcRefs τ sig).filter fun b => ¬ b.isScoped

omit [FloatOps F] [Named F] [∀ e, Nonempty (Elt F e)] in
/-- The launch's unscoped buffers at a valuation are that set held at it. -/
theorem unscoped_held (d : Dev nD) (W : Valuation τ sig (Elt F)) :
    (unscopedBufs d (fun b => W b) : sProp 𝕄) = held (d.tc : Thread nD τ) ucRefs W := by
  unfold unscopedBufs StableHlo.held ucRefs StableHlo.tcRefs
  rw [Finset.filter_map, bigSep_map]
  rfl

omit [FloatOps F] [Named F] [∀ e, Nonempty (Elt F e)] in
/-- A host operation touches unscoped buffers only. -/
theorem sub_uc (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem mem_uc (b : Ref sig .tc) (h : b.isScoped = false) : Proc.devRef (τ := τ) .tc b ∈ ucRefs :=
  Finset.mem_filter.mpr ⟨StableHlo.devRef_mem_tcRefs b, by rw [show (Proc.devRef (τ := τ) .tc b).isScoped = b.isScoped from rfl, h]; decide⟩

/-- The three arrays of the SparseCore's call. -/
def callRefs : Finset (DevRef τ sig) := {Proc.devRef .tc main_v1, Proc.devRef .tc main_v0, Proc.devRef .tc main_v2}

theorem callRefs_sub : callRefs ⊆ ucRefs := by
  intro b hb
  unfold callRefs at hb
  rcases Finset.mem_insert.mp hb with rfl | hb
  · exact mem_uc _ (by decide)
  rcases Finset.mem_insert.mp hb with rfl | hb
  · exact mem_uc _ (by decide)
  rw [Finset.mem_singleton.mp hb]
  exact mem_uc _ (by decide)

omit [FloatOps F] [Named F] [∀ e, Nonempty (Elt F e)] in
/-- The three arrays out of all the unscoped buffers. -/
theorem held_call (d : Dev nD) (W : Valuation τ sig (Elt F)) :
    (held (d.tc : Thread nD τ) ucRefs W : sProp 𝕄) = iprop(((iLoc d ↦{fullShare} W main_v1) ∗ (tLoc d ↦{fullShare} W main_v0) ∗ (oLoc d ↦{fullShare} W main_v2))
      ∗ held (d.tc : Thread nD τ) (ucRefs \ callRefs) W) := by
  rw [StableHlo.held_sub_split _ callRefs_sub]
  congr 1
  unfold StableHlo.held callRefs
  rw [SparseCore.bigSep_insert' (by decide), SparseCore.bigSep_insert' (by decide), bigSep_singleton]

/-! ## The valuations along @main -/

variable (m : (ℓ : Loc nD τ sig) → Buf (Elt F) ℓ) (ρ : Dev nD → PrngReg)

/-- At launch; -/
abbrev Wl (d : Dev nD) : Valuation τ sig (Elt F) := StableHlo.launchContents m d
/-- before the SparseCore's call; -/
def Wa (d : Dev nD) : Valuation τ sig (Elt F) := after ops1 (Wl m d)
/-- the table, the list and the output's first contents there; -/
abbrev tabM (d : Dev nD) : Buf (Elt F) (tLoc d) := Wa m d main_v0
abbrev idxM (d : Dev nD) : Buf (Elt F) (iLoc d) := Wa m d main_v1
abbrev outM (d : Dev nD) : Buf (Elt F) (oLoc d) := Wa m d main_v2
/-- after the call, the output gathered; -/
def Wb (d : Dev nD) : Valuation τ sig (Elt F) := Function.update (Wa m d) (Proc.devRef .tc main_v2) (gat (tabM m) (idxM m) d)
/-- at the region's entry; -/
def Wc (d : Dev nD) : Valuation τ sig (Elt F) := op2.result (Wb m d)
/-- the loss, the last block's tail at `w`; -/
abbrev lossM (d : Dev nD) (w : Vec F S4096x64 .f32) : F .f32 := lossAt (vx (Vw (Wc m)) d) (vg (Vw (Wc m)) d) (vt (Vw (Wc m)) d) (vf (Vw (Wc m)) d) w
/-- after the region; -/
abbrev Wd (d : Dev nD) (w : Vec F S4096x64 .f32) : Valuation τ sig (Elt F) := Wout (Wc m) d (fun _ => lossM m d w)
/-- at the end. -/
def We (d : Dev nD) (w : Vec F S4096x64 .f32) : Valuation τ sig (Elt F) := op3.result (Wd m d w)

theorem Wb_v2 (d : Dev nD) : Wb m d main_v2 = gat (tabM m) (idxM m) d := Function.update_self ..
theorem Wb_ne (d : Dev nD) (b : Ref sig .tc) (h : b ≠ main_v2) : Wb m d b = Wa m d b := Function.update_of_ne (StableHlo.devRef_ne_of_ne h) ..
theorem Wd_v4 (d : Dev nD) (w) : Wd m d w main_v4 = ((fun _ => lossM m d w) : Vec F S1x1 .f32) := Function.update_self ..
theorem Wd_ne (d : Dev nD) (w) (b : Ref sig .tc) (h : b ≠ main_v4) : Wd m d w b = Wc m d b := Function.update_of_ne (StableHlo.devRef_ne_of_ne h) ..

theorem Wc_v3 (d : Dev nD) : Wc m d main_v3 = (shapeCast S1024x1 (Wb m d main_arg1 : IVec S1024 32) shapeCasts_S1024_S1024x1 : IVec S1024x1 32) := by
  unfold Wc; exact StableHlo.reshape_result ..
theorem Wc_ne (d : Dev nD) (b : Ref sig .tc) (h : b ≠ main_v3) : Wc m d b = Wb m d b := by
  unfold Wc; exact StableHlo.reshape_result_ne _ _ _ _ _ _ _ h
theorem We_v5 (d : Dev nD) (w) : We m d w main_v5 = ((fun _ => lossM m d w) : Vec F S_ .f32) := by
  unfold We; rw [StableHlo.reshape_result, Wd_v4]; rfl
theorem We_ne (d : Dev nD) (w) (b : Ref sig .tc) (h : b ≠ main_v5) : We m d w b = Wd m d w b := by
  unfold We; exact StableHlo.reshape_result_ne _ _ _ _ _ _ _ h

theorem We_arg0 (d : Dev nD) (w) : We m d w main_arg0 = m ((d.tc : Thread nD τ).loc main_arg0) := by
  rw [We_ne _ _ _ _ (by decide), Wd_ne _ _ _ _ (by decide), Wc_ne _ _ _ (by decide), Wb_ne _ _ _ (by decide)]; exact ops1_arg0 _
theorem We_arg1 (d : Dev nD) (w) : We m d w main_arg1 = m ((d.tc : Thread nD τ).loc main_arg1) := by
  rw [We_ne _ _ _ _ (by decide), Wd_ne _ _ _ _ (by decide), Wc_ne _ _ _ (by decide), Wb_ne _ _ _ (by decide)]; exact ops1_arg1 _
theorem We_arg2 (d : Dev nD) (w) : We m d w main_arg2 = m ((d.tc : Thread nD τ).loc main_arg2) := by
  rw [We_ne _ _ _ _ (by decide), Wd_ne _ _ _ _ (by decide), Wc_ne _ _ _ (by decide), Wb_ne _ _ _ (by decide)]; exact ops1_arg2 _

/-! ## The launch's ghost state -/

omit [FloatOps F] [Named F] [∀ e, Nonempty (Elt F e)] in
theorem bigSep_none {I : Type} (s : Finset I) : (bigSep s fun _ => iprop(emp)) = (iprop(emp) : sProp 𝕄) := bigSep_emp_const s

/-- The launch's element of the certificate's algebra: the handshakes' rounds, the staging rounds, no counter yet. -/
def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

/-- What the region's launch deals device `d`. -/
def G (d : Dev nD) : sProp 𝕄 :=
  iprop(Pipeline.cellsGhost (Pipeline.pin (pcfgs (F := F)) adm) EP 0 d ∗ Pipeline.toksInit (Pipeline.pin (pcfgs (F := F)) adm) EP 0 d)

abbrev Pm : (K (F := F)).Pay (nD := nD) (Val := Elt F) (Name := ℕ) (U := UU) := P (tabM m) (idxM m) (outM m)

/-- The element funds the handshakes and every device's region. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pm m).x q thr) := by
  unfold u₀
  iintro Hu
  ihave H := (ownU_pair _ (1 : Counters)) $$ Hu
  icases H with ⟨HL, -⟩
  ihave H := (own_pair_emb embL _ _) $$ HL
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]
    · rw [show (bigSep Finset.univ fun c : Dev nD => Pipeline.cellsGhost (Pipeline.pin (pcfgs (F := F)) adm) EP 0 c : sProp 𝕄)
        = bigSep Finset.univ fun c : Dev nD => bigSep Finset.univ fun p : Fin 1 => Pipeline.cellsGhost (Pipeline.pin (pcfgs (F := F)) adm) EP p c from
        bigSep_congr fun c _ => (bigSep_univ_of_subsingleton (0 : Fin 1) (Φ := fun p => Pipeline.cellsGhost (Pipeline.pin (pcfgs (F := F)) adm) EP p c)).symm]
      iexact Hg
    · rw [show (bigSep Finset.univ fun c : Dev nD => Pipeline.toksInit (Pipeline.pin (pcfgs (F := F)) adm) EP 0 c : sProp 𝕄)
        = bigSep Finset.univ fun c : Dev nD => bigSep Finset.univ fun p : Fin 1 => Pipeline.toksInit (Pipeline.pin (pcfgs (F := F)) adm) EP p c from
        bigSep_congr fun c _ => (bigSep_univ_of_subsingleton (0 : Fin 1) (Φ := fun p => Pipeline.toksInit (Pipeline.pin (pcfgs (F := F)) adm) EP p c)).symm]
      iexact Ht
  rw [show (bigSep Finset.univ fun thr : Thread nD τ => bigSep Finset.univ fun q : Fin 1 => (Pm m).x q thr) = bigSep Finset.univ fun _ => (iprop(emp) : sProp 𝕄) from
    bigSep_congr fun _ _ => bigSep_univ_of_subsingleton (0 : Fin 1), bigSep_none]
  iempintro

end Cert.Proof.KernI

end
-- ==== Proof.RunI.lean ====
/-
  The run of the whole program: @main from the launch's deal, through the host operations, the SparseCore's
  call and the TensorCore's region, to the loss.
-/
module

public import proofs.«01_k».proof.Proof.MainI

@[expose] public section

noncomputable section

namespace Cert.Proof.KernI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.ShloMosaic.StableHlo (after held seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

/-! ## @main -/

variable (m : (ℓ : Loc nD τ sig) → Buf (Elt F) ℓ) (ρ : Dev nD → PrngReg)

/-- The pairs the TensorCore may have waited at before the region. -/
def Bd (d : Dev nD) : Set (SemLoc sig × HIx 1) := {p | (K (F := F)).lev (T d, p.1) p.2 ≤ 8}

/-- What @main leaves: every unscoped buffer at the last valuation. -/
def FIN (d : Dev nD) : sProp 𝕄 := iprop(∃ w, held (d.tc : Thread nD τ) ucRefs (We m d w))

set_option backward.isDefEq.respectTransparency.types false in
/-- The region's custom call, over the launch's definitions. -/
theorem region_call (W₀ : Dev nD → Valuation τ sig (Elt F)) (B : Set (SemLoc sig × HIx 1))
    (R : Pipeline.RDat.RegionSeg (pcfgs (F := F)) adm (rdats (Vw W₀) B) none (defs₀ (F := F)) 𝒱₀ (K (F := F)).L (K (F := F)).lev 0)
    (d : Dev nD) (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev ∗ G d)
      ⊢ wp frame (wpE ((K (F := F)).defs (D (F := F))) 𝒱 (T d) none) Set.univ
          (Prog.lift (.customCall (SparseCore.inner (Pipeline.entry 0)) ())) Q := by
  have e : (Prog.lift (.customCall (SparseCore.inner (Pipeline.entry 0)) ())
      : Prog (TpuEff nD τ sig (Elt F) (SparseCore.Sig (ΛP (F := F)) 1) .tc) PUnit)
      = TpuEff.inlProg (.op (.customCall (Pipeline.entry 0) ()) .ret : Prog (TpuEff nD τ sig (Elt F) (ΛP (F := F)) .tc) PUnit) := rfl
  have h2 := (K (F := F)).wp_liftProg (D (F := F)) 𝒱 (T d) Set.univ none
    (.op (.customCall (Pipeline.entry 0) ()) .ret : Prog (TpuEff nD τ sig (Elt F) (ΛP (F := F)) .tc) PUnit) Q
  have h1 := Pipeline.RDat.RegionSeg.wp (pcfgs (F := F)) adm (rdats (Vw W₀) B) none cellOf_inj EP defs₀ 𝒱₀
    (K (F := F)).L (K (F := F)).lev R d none (fun _ h => nomatch h) .ret Q
  have h0 : iprop((iprop(boundary (d.tc : Thread nD τ) ∗ R.post d) -∗ Q ⟨⟩)
        ∗ boundary (d.tc : Thread nD τ) ∗ R.pre d ∗ levAts (K (F := F)).L (K (F := F)).lev ∗ G d)
      ⊢ iprop((iprop(boundary (d.tc : Thread nD τ) ∗ R.post d) -∗ wp frame (wpE (D (F := F)) 𝒱 (d.tc : Thread nD τ) none) Set.univ (.ret PUnit.unit) Q)
        ∗ boundary (d.tc : Thread nD τ) ∗ R.pre d ∗ levAts (K (F := F)).L (K (F := F)).lev
        ∗ Pipeline.cellsGhost (Pipeline.pin (pcfgs (F := F)) adm) EP 0 d ∗ Pipeline.toksInit (Pipeline.pin (pcfgs (F := F)) adm) EP 0 d) := by
    unfold G
    iintro ⟨Hk, Hb, Hpre, Hlv, Hg, Ht⟩
    isplitl [Hk]
    · iintro H
      rw [wp_ret]; imodintro
      iapply Hk; iexact H
    isplitl [Hb]; · iexact Hb
    isplitl [Hpre]; · iexact Hpre
    isplitl [Hlv]; · iexact Hlv
    isplitl [Hg]; · iexact Hg
    iexact Ht
  rw [e]
  exact (h0.trans h1).trans h2

theorem st_eq (d : Dev nD) : (bigSep Finset.univ fun c : Fin ((K (F := F)).nCore 0) => (Pm m).st 0 d c)
    = iprop((iLoc d ↦{fullShare} Wa m d main_v1) ∗ (tLoc d ↦{fullShare} Wa m d main_v0) ∗ (oLoc d ↦{fullShare} Wa m d main_v2)) :=
  (pieces_cores (tabM m) (idxM m) (outM m) d).symm
theorem dn_eq (d : Dev nD) : (bigSep Finset.univ fun c : Fin ((K (F := F)).nCore 0) => (Pm m).dn 0 d c)
    = iprop((iLoc d ↦{fullShare} Wb m d main_v1) ∗ (tLoc d ↦{fullShare} Wb m d main_v0) ∗ (oLoc d ↦{fullShare} Wb m d main_v2)) := by
  rw [Wb_v2, Wb_ne m d main_v1 (by decide), Wb_ne m d main_v0 (by decide)]
  exact (pieces_cores (tabM m) (idxM m) (gat (tabM m) (idxM m)) d).symm

theorem rest_eq (d : Dev nD) : (held (d.tc : Thread nD τ) (ucRefs \ callRefs) (Wa m d) : sProp 𝕄) = held (d.tc : Thread nD τ) (ucRefs \ callRefs) (Wb m d) :=
  StableHlo.held_congr _ fun b hb => by
    unfold Wb
    rw [Function.update_of_ne]
    rintro rfl
    exact (Finset.mem_sdiff.mp hb).2 (by unfold callRefs; simp)

/-- The launch's deal of the unscoped buffers is that set held at the launch's contents. -/
theorem launch_held (d : Dev nD) : (unscopedBufs d (fun b => m ((SparseCore.T d).loc b)) : sProp 𝕄) = held (d.tc : Thread nD τ) ucRefs (Wl m d) := by
  rw [← unscoped_held]

/-- What the TensorCore owes after the one call: nothing; the waits behind it are at pairs within the bound. -/
theorem tcSt_eq (d : Dev nD) : ∃ R : sProp 𝕄, (K (F := F)).tcSt EH d 1
    = iprop((∃ W, ⌜∀ p ∈ W, p ∈ Bd (F := F) d⌝ ∗ owes (d.tc : Thread nD τ) 0 W) ∗ R) :=
  ⟨_, by unfold SparseCore.Cfg.tcSt; rw [(K (F := F)).Otc_end d (le_refl 1)]; rfl⟩

/-- Waits at no index are within the bound too. -/
theorem owes_bd (d : Dev nD) : iprop(∃ W, ⌜∀ p ∈ W, p ∈ Bd (F := F) d ∨ p.2 = none⌝ ∗ owes (d.tc : Thread nD τ) 0 W)
    ⊢ (iprop(∃ W, ⌜∀ p ∈ W, p ∈ Bd (F := F) d⌝ ∗ owes (d.tc : Thread nD τ) 0 W) : sProp 𝕄) := by
  iintro ⟨%W, %h, H⟩
  iexists W
  isplitr; swap; · iexact H
  ipureintro
  intro p hp
  rcases h p hp with h | h
  · exact h
  · obtain ⟨l, i⟩ := p
    subst h
    exact Nat.zero_le 8

/-- The region's precondition; -/
theorem reg_pre (W₀ : Dev nD → Valuation τ sig (Elt F)) (B : Set (SemLoc sig × HIx 1)) (d : Dev nD) :
    iprop(unscopedBufs d (fun b => W₀ d b) ∗ ∃ W, ⌜∀ p ∈ W, p ∈ B⌝ ∗ owes (d.tc : Thread nD τ) 0 W)
      ⊢ (reg W₀ B (K (F := F)).L (K (F := F)).lev).pre d := Entails.of_eq rfl
/-- its postcondition. -/
theorem reg_post (W₀ : Dev nD → Valuation τ sig (Elt F)) (B : Set (SemLoc sig × HIx 1)) (d : Dev nD) :
    (reg W₀ B (K (F := F)).L (K (F := F)).lev).post d
      ⊢ iprop((∃ w, unscopedBufs d (fun b => Wout W₀ d (fun _ => lossAt (vx (Vw W₀) d) (vg (Vw W₀) d) (vt (Vw W₀) d) (vf (Vw W₀) d) w) b))
        ∗ ∃ W, ⌜∀ p ∈ W, p ∈ B ∨ p.2 = none⌝ ∗ owes (d.tc : Thread nD τ) 0 W) := Entails.of_eq rfl

theorem ops1_uc : ∀ op ∈ ops1 (F := F), op.bufs ⊆ ucRefs := fun op hop => sub_uc op ((List.forall_iff_forall_mem.mp ops1_sub) op hop)
theorem ops1_fr : ∀ op ∈ ops1 (F := F), op.fresh = ∅ := List.forall_iff_forall_mem.mp ops1_fresh
theorem op2_uc : (op2 (F := F)).bufs ⊆ ucRefs := sub_uc op2 (StableHlo.reshape_bufs_sub ..)
theorem op3_uc : (op3 (F := F)).bufs ⊆ ucRefs := sub_uc op3 (StableHlo.reshape_bufs_sub ..)

set_option backward.isDefEq.respectTransparency.types false in
/-- @main from the launch's deal to every unscoped buffer at the last valuation. -/
theorem hmain (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_eq (F := F) d
  rw [launch_held, main_eq]
  iintro ⟨#Hctx, Hst, ⟨Hb, Hbufs, Hts, -⟩, HG⟩
  iapply (StableHlo.wp_seq 𝒱 none Set.univ d ucRefs _ ops1
    ops1_uc ops1_fr (Wl m d)) $$ [Hb Hbufs]
  · isplitl [Hb] <;> iassumption
  iintro ⟨Hb, Hbufs⟩
  rw [wp_bind]
  ihave H := (show (held (d.tc : Thread nD τ) ucRefs (after ops1 (Wl m d)) : sProp 𝕄) ⊢ _ from Entails.of_eq (held_call d (Wa m d))) $$ Hbufs
  icases H with ⟨Hcall, Hrest⟩
  iapply ((K (F := F)).wp_run (D (F := F)) 𝒱 (EH := EH) (P := Pm m) κ d 0) $$ [Hst Hcall Hrest Hb Hts HG]
  isplitr; · iexact Hctx
  isplitl [Hst]; · iexact Hst
  isplitl [Hcall]; · rw [st_eq]; iexact Hcall
  iintro ⟨Hst, Hdn⟩
  ihave Hdn' := (Entails.of_eq (dn_eq m d)) $$ Hdn
  ihave Hrest' := (Entails.of_eq (rest_eq m d)) $$ Hrest
  ihave Hbufs := (Entails.of_eq (held_call d (Wb m d)).symm) $$ [Hdn' Hrest']
  · isplitl [Hdn'] <;> iassumption
  rw [wp_bind]
  iapply (StableHlo.wp_hlo_within 𝒱 (d.tc : Thread nD τ) none Set.univ (S := ucRefs) (V := Wb m d) op2_uc) $$ [Hb Hbufs]
  · isplitl [Hb] <;> iassumption
  iintro ⟨Hb, Hbufs⟩
  rw [wp_ret]; imodintro
  rw [wp_bind]
  rw [hR]
  ihave Hst := (show (K (F := F)).tcSt EH d ((0 : Fin 1).val + 1) ⊢ _ from Entails.of_eq hR) $$ Hst
  icases Hst with ⟨HO, HR⟩
  ihave Hlv := (SparseCore.Cfg.ctx_levAts κ) $$ Hctx
  iapply (region_call (Wc m) (Bd (F := F) d) (reg (Wc m) (Bd (F := F) d) (K (F := F)).L (K (F := F)).lev) d _) $$ [HR HO Hb Hbufs Hts HG Hlv]
  isplitr [Hb Hbufs HO HG Hlv]; swap
  · isplitl [Hb]; · iexact Hb
    isplitl [Hbufs HO]
    · ihave Hbufs := (show (held (d.tc : Thread nD τ) ucRefs (op2.result (Wb m d)) : sProp 𝕄) ⊢ _ from Entails.of_eq (unscoped_held d (Wc m d)).symm) $$ Hbufs
      iapply (reg_pre (Wc m) (Bd (F := F) d) d)
      isplitl [Hbufs]; · iexact Hbufs
      iexact HO
    isplitl [Hlv]; · iexact Hlv
    iexact HG
  iintro ⟨Hb, Hpost⟩
  ihave Hpost := (reg_post (Wc m) (Bd (F := F) d) d) $$ Hpost
  icases Hpost with ⟨⟨%w, Hbufs⟩, HO⟩
  ihave Hbufs := (Entails.of_eq (unscoped_held d (Wd m d w))) $$ Hbufs
  ihave HO := (owes_bd d) $$ HO
  rw [wp_bind]
  iapply (StableHlo.wp_hlo_within 𝒱 (d.tc : Thread nD τ) none Set.univ (S := ucRefs) (V := Wd m d w) op3_uc) $$ [Hb Hbufs]
  · isplitl [Hb] <;> iassumption
  iintro ⟨Hb, Hbufs⟩
  rw [wp_ret]; imodintro
  rw [wp_pure]; imodintro
  isplitl [HR HO]; · isplitl [HO] <;> iassumption
  isplitl [Hbufs]
  · unfold FIN
    iexists w
    iexact Hbufs
  isplitl [Hb]; · iexact Hb
  iexact Hts

/-! ## The run -/

/-- The result's array and the arguments'. -/
def finRefs : Finset (DevRef τ sig) := {Proc.devRef .tc main_v5, Proc.devRef .tc main_arg0, Proc.devRef .tc main_arg1, Proc.devRef .tc main_arg2}

theorem finRefs_sub : finRefs ⊆ ucRefs := by
  intro b hb
  unfold finRefs at hb
  rcases Finset.mem_insert.mp hb with rfl | hb
  · exact mem_uc _ (by decide)
  rcases Finset.mem_insert.mp hb with rfl | hb
  · exact mem_uc _ (by decide)
  rcases Finset.mem_insert.mp hb with rfl | hb
  · exact mem_uc _ (by decide)
  rw [Finset.mem_singleton.mp hb]
  exact mem_uc _ (by decide)

/-- The result's location. -/
abbrev rLoc (d : Dev nD) : Loc nD τ sig := (SparseCore.T d).loc main_v5

omit [FloatOps F] [Named F] [∀ e, Nonempty (Elt F e)] in
/-- Those four arrays out of all the unscoped buffers. -/
theorem held_fin (d : Dev nD) (W : Valuation τ sig (Elt F)) :
    (held (d.tc : Thread nD τ) ucRefs W : sProp 𝕄) = iprop(((rLoc d ↦{fullShare} W main_v5) ∗ (xLoc d ↦{fullShare} W main_arg0)
        ∗ (gLoc d ↦{fullShare} W main_arg1) ∗ (fLoc d ↦{fullShare} W main_arg2))
      ∗ held (d.tc : Thread nD τ) (ucRefs \ finRefs) W) := by
  rw [StableHlo.held_sub_split _ finRefs_sub]
  congr 1
  unfold StableHlo.held finRefs
  rw [SparseCore.bigSep_insert' (by decide), SparseCore.bigSep_insert' (by decide), SparseCore.bigSep_insert' (by decide), bigSep_singleton]

/-- What the final state is read to be on device `d`: the result a loss over some words of the last block's tail, the arguments as at launch. -/
def fq (d : Dev nD) (s' : Phys nD τ sig (Elt F)) : Prop :=
  (∃ w, s'.mem.mem (rLoc d) = ((fun _ => lossM m d w) : Vec F S_ .f32))
    ∧ s'.mem.mem (xLoc d) = m (xLoc d) ∧ s'.mem.mem (gLoc d) = m (gLoc d) ∧ s'.mem.mem (fLoc d) = m (fLoc d)

set_option maxRecDepth 16384 in
theorem hfin (d : Dev nD) (s' : Phys nD τ sig (Elt F)) : iprop(FIN m d ∗ SI s') ⊢ (⌜fq m d s'⌝ : sProp 𝕄) := by
  unfold FIN
  iintro ⟨⟨%w, H⟩, HSI⟩
  ihave H := (Entails.of_eq (held_fin d (We m d w))) $$ H
  icases H with ⟨⟨Hr, Hx, Hg, Hf⟩, -⟩
  ihave H := (persistent_entails_right (SI_pointsTo_agree (st := s') (ℓ := rLoc d) (I := Finset.univ) (q := fullShare) (f := We m d w main_v5))) $$ [HSI Hr]
  · isplitl [HSI] <;> iassumption
  icases H with ⟨%h1, HSI, -⟩
  ihave H := (persistent_entails_right (SI_pointsTo_agree (st := s') (ℓ := xLoc d) (I := Finset.univ) (q := fullShare) (f := We m d w main_arg0))) $$ [HSI Hx]
  · isplitl [HSI] <;> iassumption
  icases H with ⟨%h2, HSI, -⟩
  ihave H := (persistent_entails_right (SI_pointsTo_agree (st := s') (ℓ := gLoc d) (I := Finset.univ) (q := fullShare) (f := We m d w main_arg1))) $$ [HSI Hg]
  · isplitl [HSI] <;> iassumption
  icases H with ⟨%h3, HSI, -⟩
  ihave H := (SI_pointsTo_agree (st := s') (ℓ := fLoc d) (I := Finset.univ) (q := fullShare) (f := We m d w main_arg2)) $$ [HSI Hf]
  · isplitl [HSI] <;> iassumption
  icases H with %h4
  ipureintro
  exact ⟨⟨w, (funext fun i => h1 i (Finset.mem_univ i)).trans (We_v5 m d w)⟩, (funext fun i => h2 i (Finset.mem_univ i)).trans (We_arg0 m d w),
    (funext fun i => h3 i (Finset.mem_univ i)).trans (We_arg1 m d w), (funext fun i => h4 i (Finset.mem_univ i)).trans (We_arg2 m d w)⟩

/-- What every final state satisfies. -/
def QC : PUnit × MemSt nD τ sig (Elt F) → Prop := fun r =>
  (∀ d : Dev nD, (∃ w, r.2.mem (rLoc d) = ((fun _ => lossM m d w) : Vec F S_ .f32))
    ∧ r.2.mem (xLoc d) = m (xLoc d) ∧ r.2.mem (gLoc d) = m (gLoc d) ∧ r.2.mem (fLoc d) = m (fLoc d)) ∧ r.2.sem = fun _ => 0

/-- The program runs, whatever the floats: to that, when the list holds rows of the table. -/
theorem run_main (hok : ListOK (idxM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tabM m) (idxM m) (outM m) facts hok)
    (fun q _ => match q with | 0 => SparseCore.Cfg.VecSplit.of_plain (vecSplit (tabM m) (idxM m) (outM m)))
    m ρ main G (FIN m) (u₀ (F := F)) (sep_elim_left.trans (hu₀ m)) (hmain m ρ) (fq m) (hfin m) (QC m) (fun _ h hz => ⟨h, hz⟩)

end Cert.Proof.KernI

end
-- ==== Proof.InRangeI.lean ====
/-
  What the precondition gives: every target is a row of the features, and half of it a row of the paired table.
-/
module

public import proofs.«01_k».proof.Proof.RunI
public import proofs.«01_k».proof.Proof.Gen.Pre_in_range
public import Idealize.ShloMosaic.Lib.ReduceAll
public import Idealize.ShloMosaic.Lib.Affine
public import Idealize.ShloMosaic.Lib.Routing.Words

@[expose] public section

noncomputable section

namespace Cert.Proof.KernI

open Cert.KernelIdeal Cert.KernelIdeal.Gen
open Idealize.ShloMosaic Idealize.ShloMosaic.TcCoe Idealize.SL.Sem

variable {F : FTy → Type} [FloatOps F] [Named F] [∀ e, Nonempty (Elt F e)]

instance : Subsingleton Cert.Pre_in_range.S_.Idx := ⟨fun a b => funext fun i => i.elim0⟩

/-- The predicate all ones says that every target, read as a number, is below 100000. -/
theorem lt_of_pre (a0 : FVec F Cert.Pre_in_range.S1024x64 .f32) (t : IVec Cert.Pre_in_range.S1024 32) (a2 : FVec F Cert.Pre_in_range.S100000x64 .f32)
    (h : Cert.Pre_in_range.fn (F := F) a0 t a2 = fun _ => 1#1) (j : Cert.Pre_in_range.S1024.Idx) : (t j).toNat < 100000 := by
  dsimp only [Cert.Pre_in_range.fn] at h
  have e := Host.reduce_andi_all _ _ _ _ _ (congrFun h (fun i => i.elim0)) j
  obtain ⟨e1, e2⟩ := IntOp.andi_eq_one.1 e
  have e1 := IntOp.cmpi_sge.1 e1
  have e2 := IntOp.cmpi_slt.1 e2
  simp only [broadcastInDim, constantI, BitVec.toInt_eq_toNat_cond, BitVec.toNat_ofNat, Nat.reducePow, Nat.reduceMod] at e1 e2
  omega

/-- Half of a target that is a row of the features, as a number. -/
theorem halves_toNat (t : IVec S1024 32) (j : S1024.Idx) (h : (t j).toNat < 100000) : (halves t j).toNat = (t j).toNat / 2 := by
  have e := Routing.pyDiv_ap bcast_S_S1024 t (constantI S_ 32 2#32) j (a := (t j).toNat) (b := 2) (BitVec.eq_of_toNat_eq (by rw [BitVec.toNat_ofNat, Nat.mod_eq_of_lt (t j).isLt])) rfl (by omega) (by omega) (by omega)
  have e' : halves t j = BitVec.ofNat 32 ((t j).toNat / 2) := e
  rw [e', BitVec.toNat_ofNat, Nat.mod_eq_of_lt (by omega)]

variable (m : (ℓ : Loc nD τ sig) → Buf (Elt F) ℓ) (ρ : Dev nD → PrngReg)

/-- The list of halves holds rows of the paired table. -/
theorem list_ok (h : ∀ d : Dev nD, Cert.Pre_in_range.fn (F := F) (m ((d.tc : Thread nD τ).loc main_arg0)) (m ((d.tc : Thread nD τ).loc main_arg1))
    (m ((d.tc : Thread nD τ).loc main_arg2)) = fun _ => 1#1) : ListOK (idxM m) := by
  intro d j
  have hj := lt_of_pre _ _ _ (h d) j
  rw [show idxM m d = halves (Wl m d main_arg1 : IVec S1024 32) from ops1_v1 _]
  refine (halves_toNat _ j hj).trans_lt ?_
  exact Nat.div_lt_of_lt_mul hj

end Cert.Proof.KernI

end
-- ==== Proof.FrameI.lean ====
/-
  The kernel's frame: it runs, leaves its arguments and every semaphore counter as they were.
-/
module

public import proofs.«01_k».proof.Proof.InRangeI

@[expose] public section

noncomputable section

namespace Cert.Proof.KernI

open Cert.KernelIdeal Cert.KernelIdeal.Gen
open Idealize.ShloMosaic Idealize.ShloMosaic.TcCoe Idealize.SL.Sem

/-- The kernel's frame (Defs.lean), from targets in range. -/
theorem frame : Cert.quiescent_KernelIdeal := fun m ρ hpre =>
  (θ_run Cert.KernelIdeal.defs _ _).mono (fun _ h => ⟨fun c => (h.1 c).2, h.2⟩) (run_main (F := Ideal) m ρ (list_ok m hpre))

end Cert.Proof.KernI

end
-- ==== Proof.Claims.lean ====
/-
  The claims about the three programs: the frames, and the constants that the idealized kernel names.
-/
module

public import proofs.«01_k».proof.Proof.Frame
public import proofs.«01_k».proof.Proof.FrameI
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs, and leaves its arguments and every counter as they were; it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants have the values that the idealized kernel reads at the extended reals. -/
theorem preserves : Cert.preserves_Kernel_KernelIdeal :=
  ⟨IdealRules.named_const.statement Cert.KernelIdeal.κ "inv_temp_log2e" .f32 0x41E6D4CA#32 ((20 * (Real.log 2)⁻¹ : ℝ) : EReal) rfl,
    IdealRules.named_const.statement Cert.KernelIdeal.κ "ln2" .f32 0x3F317218#32 ((Real.log 2 : ℝ) : EReal) rfl⟩

end Cert.Proof

end
-- ==== Proof.Maths.lean ====
/-
  The mathematics that the two programs share, on the extended reals alone: the constants' values, scaling
  through a sum, the power of two against the exponential, the shift inside the logarithm of a sum of
  exponentials, and the sum over the memory bank cut into tiles of 4096 rows.
-/
module

public import Idealize.ShloMosaic.Lib.IdealHost
public import Idealize.ShloMosaic.Lib.Tactic

@[expose] public section

noncomputable section

namespace Cert.Proof.Maths

open Idealize.ShloMosaic

/-! ## Constants -/

/-- The word `0x41A00000` is twenty. -/
theorem twenty : Ideal.ofBits .f32 0x41A00000#32 = ((20 : ℝ) : EReal) := by
  simp [Ideal.ofBits, Ideal.ieee, -EReal.coe_mul]; norm_num

/-- The word `0x3A800000` is `2⁻¹⁰`. -/
theorem inv1024 : Ideal.ofBits .f32 0x3A800000#32 = ((1 / 1024 : ℝ) : EReal) := by
  simp [Ideal.ofBits, Ideal.ieee, -EReal.coe_mul]; norm_num

/-- The word `0x44800000` is `1024`. -/
theorem n1024 : Ideal.ofBits .f32 0x44800000#32 = ((1024 : ℝ) : EReal) := by
  simp [Ideal.ofBits, Ideal.ieee, -EReal.coe_mul]; norm_num

/-- The word `0x7F800000` is `+∞`. -/
theorem inf : Ideal.ofBits .f32 0x7F800000#32 = (⊤ : EReal) := by
  simp [Ideal.ofBits, Ideal.ieee]

/-- The lower bound on a row's length is a positive number. -/
theorem eps_pos : (0 : EReal) < Ideal.ofBits .f32 0x2B8CBCCC#32 := by
  simp [Ideal.ofBits, Ideal.ieee, -EReal.coe_mul]

/-- The temperature's inverse over `log 2`, as a real. -/
def cT : ℝ := 20 * (Real.log 2)⁻¹

theorem log2_pos : 0 < Real.log 2 := Real.log_pos (by norm_num)

theorem cT_pos : 0 < cT := mul_pos (by norm_num) (inv_pos.mpr log2_pos)

theorem cT_mul : cT * Real.log 2 = 20 := by
  unfold cT; rw [mul_assoc, inv_mul_cancel₀ log2_pos.ne', mul_one]

/-! ## Scaling -/

/-- A nonnegative real goes through a sum, whatever the summands. -/
theorem mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- Dividing by the temperature `1 / 20` is multiplying by twenty. -/
theorem div_temp (o : EReal) : Ideal.div o (Ideal.div 1 ((20 : ℝ) : EReal)) = o * ((20 : ℝ) : EReal) := by
  rw [Ideal.div_coe (by norm_num) 1, one_mul, Ideal.div_coe (by norm_num)]
  norm_num

/-- Two to the scaled and shifted product is `e` to the shifted logit. -/
theorem exp2_shift (o : EReal) :
    Ideal.exp2 ((cT : EReal) * o - (cT : EReal)) = Ideal.exp (o * ((20 : ℝ) : EReal) - ((20 : ℝ) : EReal)) := by
  induction o with
  | bot =>
    rw [EReal.coe_mul_bot_of_pos cT_pos, EReal.bot_mul_coe_of_pos (by norm_num), EReal.bot_sub, EReal.bot_sub]; rfl
  | top =>
    rw [EReal.coe_mul_top_of_pos cT_pos, EReal.top_mul_coe_of_pos (by norm_num), EReal.top_sub_coe, EReal.top_sub_coe]
    rfl
  | coe r =>
    rw [← EReal.coe_mul, ← EReal.coe_sub, ← EReal.coe_mul, ← EReal.coe_sub, Ideal.exp2_coe, Ideal.exp_coe]
    congr 1
    show (2 : ℝ) ^ (cT * r - cT) = _
    rw [Real.rpow_def_of_pos (by norm_num)]
    congr 1
    have := cT_mul
    linear_combination (r - 1) * this

/-- An exponential is never negative. -/
theorem exp_nonneg (x : EReal) : 0 ≤ Ideal.exp x := by
  induction x with
  | bot => exact le_refl _
  | top => exact le_top
  | coe r => rw [Ideal.exp_coe]; exact_mod_cast (Real.exp_pos r).le

/-- Changing the shift of an exponential by reals multiplies it by a real. -/
theorem exp_change (l : EReal) (s : ℝ) :
    Ideal.exp (l - (s : EReal)) = ((Real.exp (20 - s) : ℝ) : EReal) * Ideal.exp (l - ((20 : ℝ) : EReal)) := by
  induction l with
  | bot => rw [EReal.bot_sub, EReal.bot_sub]; simp
  | top =>
    rw [EReal.top_sub_coe, EReal.top_sub_coe, Ideal.exp_top, EReal.coe_mul_top_of_pos (Real.exp_pos _)]
  | coe r =>
    rw [← EReal.coe_sub, ← EReal.coe_sub, Ideal.exp_coe, Ideal.exp_coe, ← EReal.coe_mul, ← Real.exp_add]
    congr 2; ring

/-- The logarithm of a sum of exponentials does not depend on the real shift taken out of it. -/
theorem log_shift {ι : Type} [Fintype ι] (l : ι → EReal) (s : ℝ) :
    Ideal.log (∑ j, Ideal.exp (l j - ((20 : ℝ) : EReal))) + ((20 : ℝ) : EReal)
      = Ideal.log (0 + ∑ j, Ideal.exp (l j - (s : EReal))) + (s : EReal) := by
  rw [zero_add, Finset.sum_congr rfl (fun j _ => exp_change (l j) s), ← mul_sum _ (Real.exp_pos _).le]
  have hA : 0 ≤ ∑ j, Ideal.exp (l j - ((20 : ℝ) : EReal)) := Finset.sum_nonneg fun j _ => exp_nonneg _
  generalize (∑ j, Ideal.exp (l j - ((20 : ℝ) : EReal))) = A at hA
  induction A with
  | bot => simp at hA
  | top => rw [EReal.coe_mul_top_of_pos (Real.exp_pos _), Ideal.log_top, EReal.top_add_coe, EReal.top_add_coe]
  | coe a =>
    have ha : 0 ≤ a := by exact_mod_cast hA
    rw [← EReal.coe_mul, Ideal.log_coe, Ideal.log_coe]
    rcases ha.eq_or_lt with rfl | ha'
    · simp
    · rw [if_neg (not_le.mpr ha'), if_neg (not_le.mpr (mul_pos (Real.exp_pos _) ha')), ← EReal.coe_add,
        ← EReal.coe_add, Real.log_mul (Real.exp_pos _).ne' ha'.ne', Real.log_exp]
      congr 1; ring

/-- The shift that the reference takes is a real number: the largest logit where that is finite, zero otherwise. -/
theorem shift_real (t : EReal) :
    ∃ s : ℝ, Scalar.select (Ideal.cmp .olt (max t (-t)) ⊤) t (0 : EReal) = (s : EReal) := by
  by_cases h : max t (-t) < ⊤
  · induction t with
    | bot => simp at h
    | top => simp at h
    | coe r => exact ⟨r, by simp [Ideal.cmp, Scalar.select, h]⟩
  · exact ⟨0, by simp [Ideal.cmp, Scalar.select, h]⟩

/-! ## The memory bank in tiles -/

/-- A sum over `a * b` places is one over `a` blocks of `b`. -/
theorem sum_blocks (E : ℕ → EReal) (b : ℕ) : ∀ a : ℕ,
    ∑ j ∈ Finset.range (a * b), E j = ∑ i ∈ Finset.range a, ∑ k ∈ Finset.range b, E (i * b + k)
  | 0 => by simp
  | a + 1 => by rw [Nat.add_mul, Nat.one_mul, Finset.sum_range_add, sum_blocks E b a, Finset.sum_range_succ]

/-- The lanes' totals over 25 tiles of 32 slices of 128 columns add up to the sum over the memory bank, where the
    columns beyond it count for nothing. -/
theorem sum_bank (E : ℕ → EReal) (h0 : ∀ j, 100000 ≤ j → E j = 0) :
    ∑ l : Fin 128, ∑ t ∈ Finset.range 25, ∑ c ∈ Finset.range 32, E (4096 * t + (128 * c + l))
      = ∑ j : Fin 100000, E j := by
  have e1 : ∑ j : Fin 100000, E j = ∑ j ∈ Finset.range 100000, E j := (Finset.sum_range E).symm
  have e2 : ∑ j ∈ Finset.range 100000, E j = ∑ j ∈ Finset.range (25 * 4096), E j := by
    refine Finset.sum_subset (fun j hj => ?_) (fun j _ hj => h0 j (by simpa using hj))
    simp only [Finset.mem_range] at hj ⊢; omega
  have e3 : ∀ t, ∑ k ∈ Finset.range 4096, E (t * 4096 + k)
      = ∑ c ∈ Finset.range 32, ∑ l ∈ Finset.range 128, E (t * 4096 + (c * 128 + l)) := fun t =>
    sum_blocks (fun k => E (t * 4096 + k)) 128 32
  rw [e1, e2, sum_blocks, Finset.sum_congr rfl (fun t _ => e3 t),
    ← Finset.sum_range (fun l => ∑ t ∈ Finset.range 25, ∑ c ∈ Finset.range 32, E (4096 * t + (128 * c + l))),
    Finset.sum_comm]
  refine Finset.sum_congr rfl fun t _ => ?_
  rw [Finset.sum_comm]
  refine Finset.sum_congr rfl fun c _ => Finset.sum_congr rfl fun l _ => ?_
  rw [Nat.mul_comm 4096 t, Nat.mul_comm 128 c]

end Cert.Proof.Maths
-- ==== Proof.Rows.lean ====
/-
  The kernel's vector arithmetic read element by element on the extended reals: the scaled rows, and what one
  tile of the memory bank adds to the running sums.
-/
module

public import proofs.«01_k».proof.Proof.RegionDataI
public import proofs.«01_k».proof.Proof.Maths
public import Idealize.ShloMosaic.Lib.Pointwise

@[expose] public section

set_option maxRecDepth 16384

noncomputable section

namespace Cert.Proof.KernI

open Cert.KernelIdeal Cert.KernelIdeal.Gen Cert.Proof.Maths

open Idealize.ShloMosaic

/-- The length of row `b`, kept away from zero. -/
def nrm (x : Vec Ideal S1024x64 .f32) (b : Fin 1024) : EReal :=
  max (Ideal.sqrt (∑ k : Fin 64, x (ix2 b k) * x (ix2 b k))) (Ideal.ofBits .f32 0x2B8CBCCC#32)

/-- The normalised rows. -/
def xn (x : Vec Ideal S1024x64 .f32) (b : Fin 1024) (k : Fin 64) : EReal := x (ix2 b k) * (nrm x b)⁻¹

/-- The temperature's inverse over `log 2` under its name. -/
theorem named_cT : Named.named (F := Ideal) κ "inv_temp_log2e" (φ := .f32) 0x41E6D4CA#32 = ((cT : ℝ) : EReal) := rfl

/-- `log 2` under its name. -/
theorem named_ln2 : Named.named (F := Ideal) κ "ln2" (φ := .f32) 0x3F317218#32 = ((Real.log 2 : ℝ) : EReal) := rfl

theorem nrm_pos (x : Vec Ideal S1024x64 .f32) (b : Fin 1024) : 0 < nrm x b := lt_max_of_lt_right eps_pos

/-- The logit of row `b` against row `j` of the memory bank. -/
def logit (x : Vec Ideal S1024x64 .f32) (ft : Vec Ideal S100000x64 .f32) (b : Fin 1024) (j : Fin 100000) : EReal :=
  (∑ k : Fin 64, xn x b k * ft (ix2 j k)) * ((20 : ℝ) : EReal)

/-- The exponentials of row `b`'s logits less twenty, by position in the memory bank; nothing beyond it. -/
def term (x : Vec Ideal S1024x64 .f32) (ft : Vec Ideal S100000x64 .f32) (b : Fin 1024) (j : ℕ) : EReal :=
  if h : j < 100000 then Ideal.exp (logit x ft b ⟨j, h⟩ - ((20 : ℝ) : EReal)) else 0

/-- A scaled row is the normalised row times the temperature's inverse over `log 2`. -/
theorem pay1_ap (x : Vec Ideal S1024x64 .f32) (b : Fin 1024) (k : Fin 64) :
    k1_pay1 (F := Ideal) x (ix2 b k) = ((cT : ℝ) : EReal) * xn x b k := by
  pointwise [k1_pay1]
  rw [named_cT]
  show x (ix2 b k) * Ideal.div _ (nrm x b) = _
  rw [Ideal.div, if_neg (nrm_pos x b).ne', xn, mul_left_comm]

theorem pay2_ap (x : Vec Ideal S1024x64 .f32) (b : Fin 1024) (k : Fin 64) :
    k1_pay2 (F := Ideal) x (ix2 b k) = ((cT : ℝ) : EReal) * xn x b k := by
  rw [← pay1_ap]; pointwise [k1_pay2]

theorem pay3_ap (x : Vec Ideal S1024x64 .f32) (b : Fin 1024) (k : Fin 64) :
    k1_pay3 (F := Ideal) x (ix2 b k) = ((cT : ℝ) : EReal) * xn x b k := by
  rw [← pay1_ap]; pointwise [k1_pay3]

/-- The products of the scaled rows with a tile's rows. -/
theorem pay5_ap (xs : FVec Ideal S1024x64 .bf16) (f : Vec Ideal S4096x64 .f32) (b : Fin 1024) (q : Fin 4096) :
    k1_pay5 (F := Ideal) xs f (ix2 b q) = ∑ k : Fin 64, xs (ix2 b k) * f (ix2 q k) := by
  pointwise [k1_pay5]

/-- A tile's exponentials at a row that lies in the memory bank. -/
theorem exp_ap (x : Vec Ideal S1024x64 .f32) (ft : Vec Ideal S100000x64 .f32) (f : Vec Ideal S4096x64 .f32)
    (b : Fin 1024) (q : Fin 4096) (j : Fin 100000) (hf : ∀ k : Fin 64, f (ix2 q k) = ft (ix2 j k)) :
    FloatOps.exp2 (F := Ideal) (φ := .f32) (k1_pay5 (F := Ideal) (k1_pay3 x) f (ix2 b q)
        - Named.named (F := Ideal) κ "inv_temp_log2e" (φ := .f32) 0x41E6D4CA#32)
      = term x ft b j.val := by
  rw [pay5_ap, named_cT, term, dif_pos j.isLt]
  have e : ∑ k : Fin 64, k1_pay3 (F := Ideal) x (ix2 b k) * f (ix2 q k)
      = ((cT : ℝ) : EReal) * ∑ k : Fin 64, xn x b k * ft (ix2 j k) := by
    rw [mul_sum _ cT_pos.le]
    exact Finset.sum_congr rfl fun k _ => by rw [pay3_ap, hf, mul_assoc]
  rw [e]
  exact exp2_shift _

/-- What a whole tile adds to the running sums. -/
theorem full_ap (L : FVec Ideal S1024x4096 .f32) (a : Vec Ideal S1024x128 .f32) (b : Fin 1024) (l : Fin 128) (G : ℕ → EReal)
    (hG : ∀ (q : ℕ) (h : q < 4096), FloatOps.exp2 (F := Ideal) (φ := .f32) (L (ix2 b ⟨q, h⟩)
        - Named.named (F := Ideal) κ "inv_temp_log2e" (φ := .f32) 0x41E6D4CA#32) = G q) :
    k1_pay6 (F := Ideal) (k1_pay9 L) (k1_pay10 L) (k1_pay11 L) (k1_pay12 L) (k1_pay13 L) (k1_pay14 L) (k1_pay15 L)
        (k1_pay16 L) a (ix2 b l)
      = a (ix2 b l) + ∑ c ∈ Finset.range 32, G (128 * c + l) := by
  pointwise [k1_pay6, k1_pay8, k1_pay9, k1_pay10, k1_pay11, k1_pay12, k1_pay13, k1_pay14, k1_pay15, k1_pay16]
  simp only [hG, Finset.sum_range_succ, Finset.sum_range_zero, Nat.reduceMul, Nat.zero_add]
  abel

/-- What the last tile adds to the running sums: only its first 1696 rows count. -/
theorem last_ap (L : FVec Ideal S1024x4096 .f32) (a : Vec Ideal S1024x128 .f32) (b : Fin 1024) (l : Fin 128) (G : ℕ → EReal)
    (hG : ∀ (q : ℕ) (h : q < 4096), Scalar.select (IntOp.cmpi .slt (BitVec.ofNat 32 q) 1696#32)
        (FloatOps.exp2 (F := Ideal) (φ := .f32) (L (ix2 b ⟨q, h⟩)
          - Named.named (F := Ideal) κ "inv_temp_log2e" (φ := .f32) 0x41E6D4CA#32)) (0 : EReal) = G q) :
    k1_pay33 (F := Ideal) (k1_pay18 L) (k1_pay19 L) (k1_pay20 L) (k1_pay21 L) (k1_pay22 L) (k1_pay23 L) (k1_pay24 L)
        (k1_pay25 L) (k1_pay26 L) (k1_pay27 L) (k1_pay28 L) (k1_pay29 L) (k1_pay30 L) (k1_pay31 L) (k1_pay32 L) a (ix2 b l)
      = a (ix2 b l) + ∑ c ∈ Finset.range 32, G (128 * c + l) := by
  pointwise [k1_pay33, k1_pay17, k1_pay18, k1_pay19, k1_pay20, k1_pay21, k1_pay22, k1_pay23, k1_pay24, k1_pay25,
    k1_pay26, k1_pay27, k1_pay28, k1_pay29, k1_pay30, k1_pay31, k1_pay32]
  simp only [hG, Finset.sum_range_succ, Finset.sum_range_zero, Nat.reduceMul, Nat.zero_add]
  abel

/-- A tile's block at a row that lies in the memory bank. -/
theorem featBlk_ap (ft : Vec Ideal S100000x64 .f32) (n : ℕ) (d : Vec Ideal S4096x64 .f32) (q : Fin 4096) (k : Fin 64)
    (h : 4096 * n + q.val < 100000) : featBlk ft n d (ix2 q k) = ft (ix2 ⟨4096 * n + q.val, h⟩ k) := by
  unfold featBlk
  have h' : 4096 * n + ((ix2 q k : S4096x64.Idx) 0).val < 100000 := h
  rw [dif_pos h']
  congr 1
  funext a
  fin_cases a <;> rfl

/-- The running sums before tile `n`: the terms of the tiles before it. -/
theorem accAt_ap (x : Vec Ideal S1024x64 .f32) (ft : Vec Ideal S100000x64 .f32) (b : Fin 1024) (l : Fin 128) :
    ∀ n : ℕ, n ≤ 24 → accAt (F := Ideal) x ft n (ix2 b l)
      = ∑ t ∈ Finset.range n, ∑ c ∈ Finset.range 32, term x ft b (4096 * t + (128 * c + l))
  | 0, _ => by
    rw [Finset.sum_range_zero]
    show k1_pay4 (F := Ideal) (ix2 b l) = 0
    pointwise [k1_pay4]
  | n + 1, hn => by
    rw [Finset.sum_range_succ, ← accAt_ap x ft b l n (by omega)]
    exact full_ap _ _ b l (fun q => term x ft b (4096 * n + q)) fun q h =>
      exp_ap x ft _ b ⟨q, h⟩ ⟨4096 * n + q, by omega⟩ fun k => featBlk_ap ft n _ ⟨q, h⟩ k (by show _ + q < _; omega)

/-- The running sums after the last tile: the terms of the memory bank by lanes, whatever lies behind the bank in
    the last block. -/
theorem accEnd_ap (x : Vec Ideal S1024x64 .f32) (ft : Vec Ideal S100000x64 .f32) (d : Vec Ideal S4096x64 .f32)
    (b : Fin 1024) (l : Fin 128) :
    accLast (F := Ideal) (k1_pay3 x) (featBlk ft 24 d) (accAt x ft 24) (ix2 b l)
      = ∑ t ∈ Finset.range 25, ∑ c ∈ Finset.range 32, term x ft b (4096 * t + (128 * c + l)) := by
  rw [Finset.sum_range_succ, ← accAt_ap x ft b l 24 le_rfl]
  refine last_ap _ _ b l (fun q => term x ft b (4096 * 24 + q)) fun q h => ?_
  have hc : IntOp.cmpi .slt (BitVec.ofNat 32 q) 1696#32 = BitVec.ofBool (decide (q < 1696)) := by
    show BitVec.ofBool _ = BitVec.ofBool _
    congr 1
    rw [BitVec.slt, BitVec.toInt_eq_toNat_of_lt (by rw [BitVec.toNat_ofNat]; omega)]
    simp only [BitVec.toNat_ofNat, Nat.mod_eq_of_lt (show q < 2 ^ 32 by omega)]
    norm_num
    show ((q : ℤ) < 1696) ↔ q < 1696
    omega
  by_cases hq : q < 1696
  · rw [hc, decide_eq_true hq]
    show FloatOps.exp2 (F := Ideal) (φ := .f32) _ = _
    exact exp_ap x ft _ b ⟨q, h⟩ ⟨4096 * 24 + q, by omega⟩ fun k => featBlk_ap ft 24 _ ⟨q, h⟩ k (by show _ + q < _; omega)
  · rw [hc, decide_eq_false hq, term, dif_neg (by omega)]
    rfl

/-- A row's total over the lanes: the sum of its exponentials over the memory bank. -/
theorem total_ap (x : Vec Ideal S1024x64 .f32) (ft : Vec Ideal S100000x64 .f32) (d : Vec Ideal S4096x64 .f32) (b : Fin 1024) :
    ∑ l : Fin 128, accLast (F := Ideal) (k1_pay3 x) (featBlk ft 24 d) (accAt x ft 24) (ix2 b l)
      = ∑ j : Fin 100000, Ideal.exp (logit x ft b j - ((20 : ℝ) : EReal)) := by
  rw [Finset.sum_congr rfl fun l _ => accEnd_ap x ft d b l,
    sum_bank (term x ft b) fun j hj => dif_neg (by omega)]
  exact Finset.sum_congr rfl fun j _ => dif_pos j.isLt

end Cert.Proof.KernI
-- ==== Proof.Loss.lean ====
/-
  The kernel's loss read on the extended reals: the mean, over the rows, of the logarithm of the sum of the
  exponentials of a row's logits less the logit of the row's target.
-/
module

public import proofs.«01_k».proof.Proof.Rows
public import Idealize.ShloMosaic.Lib.Routing.Words

@[expose] public section

set_option maxRecDepth 16384

noncomputable section

namespace Cert.Proof.KernI

open Cert.KernelIdeal Cert.KernelIdeal.Gen Cert.Proof.Maths

open Idealize.ShloMosaic

/-- The bit by which the kernel picks a row's half: whether the target's remainder by two, brought above zero, is one. -/
def oddBit (t : BitVec 32) : BitVec 1 :=
  IntOp.cmpi .eq
    (Scalar.select
      (IntOp.andi
        (IntOp.xori
          (IntOp.cmpi .slt (IntOp.remsi .vector t (Scalar.select (Scalar.cmpi .eq 2#32 0#32) 1#32 2#32)) 0#32)
          (Scalar.cmpi .slt (Scalar.select (Scalar.cmpi .eq 2#32 0#32) 1#32 2#32) 0#32))
        (IntOp.cmpi .ne (IntOp.remsi .vector t (Scalar.select (Scalar.cmpi .eq 2#32 0#32) 1#32 2#32)) 0#32))
      (IntOp.addi (IntOp.remsi .vector t (Scalar.select (Scalar.cmpi .eq 2#32 0#32) 1#32 2#32))
        (Scalar.select (Scalar.cmpi .eq 2#32 0#32) 1#32 2#32))
      (IntOp.remsi .vector t (Scalar.select (Scalar.cmpi .eq 2#32 0#32) 1#32 2#32)))
    1#32

/-- On a target in range the bit is the target's parity. -/
theorem oddBit_eq (t : BitVec 32) (h : t.toNat < 100000) : oddBit t = BitVec.ofBool (decide (t.toNat % 2 = 1)) := by
  have e2 : Scalar.select (Scalar.cmpi .eq 2#32 0#32) 1#32 2#32 = BitVec.ofNat 32 2 := by decide
  have er : IntOp.remsi .vector t (BitVec.ofNat 32 2) = BitVec.ofNat 32 (t.toNat % 2) := by
    have et : t = BitVec.ofNat 32 t.toNat := (BitVec.ofNat_toNat 32 t).symm ▸ (BitVec.setWidth_eq t).symm
    conv_lhs => rw [et]
    exact Routing.remsi_word .vector (by omega) (by omega) (by omega)
  unfold oddBit
  rw [e2, er]
  rcases Nat.mod_two_eq_zero_or_one t.toNat with h0 | h0 <;> rw [h0] <;> decide

/-- The loss stored, of the scaled rows, the running sums, the gathered rows and the targets. -/
theorem lossOf_ap (xs : Vec Ideal S1024x64 .f32) (a : Vec Ideal S1024x128 .f32) (g : Vec Ideal S1024x128 .f32)
    (t : Vec Ideal S1024x1 .i32) :
    lossOf (F := Ideal) xs a g t
      = (∑ b : Fin 1024, ((Ideal.log (∑ l : Fin 128, a (ix2 b l)) + ((20 : ℝ) : EReal))
          - (∑ k : Fin 64, xs (ix2 b k) * Scalar.select (oddBit (t (ix2 b 0)))
              (g (ix2 b ⟨64 + k.val, by omega⟩)) (g (ix2 b ⟨k.val, by omega⟩))) * ((Real.log 2 : ℝ) : EReal)))
        * ((1 / 1024 : ℝ) : EReal) := by
  unfold lossOf
  pointwise [k1_pay7, k1_pay34, k1_pay35, k1_pay36, k1_pay37, k1_pay38]
  rw [twenty, inv1024, named_ln2]
  refine congrArg (fun z : EReal => z * ((1 / 1024 : ℝ) : EReal)) ?_
  refine Finset.sum_congr rfl fun b _ => ?_
  rw [Fin.sum_univ_one]
  rfl

/-- The kernel's loss, where the gathered rows hold the targets' rows of the memory bank. -/
theorem lossAt_ap (x : Vec Ideal S1024x64 .f32) (g : Vec Ideal S1024x128 .f32) (tc : Vec Ideal S1024x1 .i32)
    (ft : Vec Ideal S100000x64 .f32) (d : Vec Ideal S4096x64 .f32)
    (ht : ∀ b : Fin 1024, (tc (ix2 b 0)).toNat < 100000)
    (hg : ∀ (b : Fin 1024) (k : Fin 64) (q : Fin 128), q.val = 64 * ((tc (ix2 b 0)).toNat % 2) + k.val →
      g (ix2 b q) = ft (ix2 ⟨(tc (ix2 b 0)).toNat, ht b⟩ k)) :
    lossAt (F := Ideal) x g tc ft d
      = (∑ b : Fin 1024, ((Ideal.log (∑ j : Fin 100000, Ideal.exp (logit x ft b j - ((20 : ℝ) : EReal))) + ((20 : ℝ) : EReal))
          - logit x ft b ⟨(tc (ix2 b 0)).toNat, ht b⟩)) * ((1 / 1024 : ℝ) : EReal) := by
  unfold lossAt
  rw [lossOf_ap]
  refine congrArg (fun z : EReal => z * ((1 / 1024 : ℝ) : EReal)) ?_
  refine Finset.sum_congr rfl fun b _ => ?_
  rw [total_ap]
  refine congrArg (fun z : EReal =>
    Ideal.log (∑ j : Fin 100000, Ideal.exp (logit x ft b j - ((20 : ℝ) : EReal))) + ((20 : ℝ) : EReal) - z) ?_
  have e : ∑ k : Fin 64, k1_pay2 (F := Ideal) x (ix2 b k) * Scalar.select (oddBit (tc (ix2 b 0)))
        (g (ix2 b ⟨64 + k.val, by omega⟩)) (g (ix2 b ⟨k.val, by omega⟩))
      = ((cT : ℝ) : EReal) * ∑ k : Fin 64, xn x b k * ft (ix2 ⟨(tc (ix2 b 0)).toNat, ht b⟩ k) := by
    rw [mul_sum _ cT_pos.le]
    refine Finset.sum_congr rfl fun k _ => ?_
    rw [pay2_ap, mul_assoc, oddBit_eq _ (ht b)]
    congr 2
    rcases Nat.mod_two_eq_zero_or_one (tc (ix2 b 0)).toNat with h0 | h0
    · rw [decide_eq_false (by omega)]
      exact hg b k ⟨k.val, by omega⟩ (by rw [h0]; show k.val = _; omega)
    · rw [decide_eq_true h0]
      exact hg b k ⟨64 + k.val, by omega⟩ (by rw [h0])
  rw [e, logit, mul_comm ((cT : ℝ) : EReal), mul_assoc, ← EReal.coe_mul, cT_mul]

end Cert.Proof.KernI
-- ==== Proof.Ref.lean ====
/-
  The reference's loss read on the extended reals.
-/
module

public import proofs.«01_k».proof.Proof.Gen.ReferenceIdeal.Run
public import proofs.«01_k».proof.Proof.Maths
public import Idealize.ShloMosaic.Lib.Pointwise

@[expose] public section

set_option maxRecDepth 16384

noncomputable section

namespace Cert.Proof.Ref

open Cert.ReferenceIdeal Cert.ReferenceIdeal.Gen Cert.Proof.Maths

open Idealize.ShloMosaic Idealize.ShloMosaic.TcCoe

/-- The reference's logits. -/
def lgt (x : Vec Ideal S1024x64 .f32) (f : Vec Ideal S100000x64 .f32) : FVec Ideal S1024x100000 .f32 :=
  Host.divf (Host.dotGeneral (φ₂ := .f32) dot_S1024x64_S64x100000_S1024x100000_1_0_0_1_n_n none
      (Host.divf x (broadcastInDim S1024x64 ![0, 1] bcast_S1024x1_S1024x64_0_1
        (maximumf (Host.sqrt (broadcastInDim S1024x1 ![0] bcast_S1024_S1024x1_0
          (Host.reduceAdd (mulf x x) (constant S_ .f32 0x00000000#32) reducesTo_S1024x64_S1024_d1 h_S_)))
          (broadcastInDim S1024x1 ![] bcast_S_S1024x1 (constant S_ .f32 0x2B8CBCCC#32)))))
      (transpose S64x100000 [1, 0] f transposes_S100000x64_S64x100000_1_0))
    (broadcastInDim S1024x100000 ![] bcast_S_S1024x100000 (Host.divf (constant S_ .f32 0x3F800000#32) (constant S_ .f32 0x41A00000#32)))

/-- The reference's shifts: each row's largest logit where that is finite. -/
def shiftV (l : FVec Ideal S1024x100000 .f32) : FVec Ideal S1024 .f32 :=
  select (cmpf .olt (Host.absf (Host.reduce FloatOps.maximumf l (constant S_ .f32 0xFF800000#32) reducesTo_S1024x100000_S1024_d1 h_S_))
      (broadcastInDim S1024 ![] bcast_S_S1024 (constant S_ .f32 0x7F800000#32)))
    (Host.reduce FloatOps.maximumf l (constant S_ .f32 0xFF800000#32) reducesTo_S1024x100000_S1024_d1 h_S_)
    (broadcastInDim S1024 ![] bcast_S_S1024 (id (constant S_ .f32 0x00000000#32)))

/-- The targets as the reference's gather takes them: negative ones counted from the end. -/
def idxV (t : Vec Ideal S1024 .i32) : IVec S1024x1x1 32 :=
  shapeCast _ (select (cmpi .slt (broadcastInDim S1024x1 ![0] bcast_S1024_S1024x1_0 t)
      (broadcastInDim S1024x1 ![] bcast_S_S1024x1 (constantI S_ 32 0#32)))
    (addi (broadcastInDim S1024x1 ![0] bcast_S1024_S1024x1_0 t) (broadcastInDim S1024x1 ![] bcast_S_S1024x1 (constantI S_ 32 100000#32)))
    (broadcastInDim S1024x1 ![0] bcast_S1024_S1024x1_0 t)) shapeCasts_S1024x1_S1024x1x1

/-- Which targets lie within the memory bank. -/
def okV (t : Vec Ideal S1024 .i32) : IVec S1024x1 1 :=
  Host.reduce IntOp.andi (andi (cmpi .sge (idxV t) (broadcastInDim S1024x1x1 ![] bcast_S_S1024x1x1 (constantI S_ 32 0#32)))
      (cmpi .sle (idxV t) (broadcastInDim S1024x1x1 ![0, 1, 2] bcast_S1x1x1_S1024x1x1_0_1_2
        (broadcastInDim S1x1x1 ![2] bcast_S1_S1x1x1_2 (constantI S1 32 99999#32)))))
    (constantI S_ 1 1#1) reducesTo_S1024x1x1_S1024x1_d2 h_S_

/-- The reference's target logits. -/
def tgtV (l : FVec Ideal S1024x100000 .f32) (t : Vec Ideal S1024 .i32) : FVec Ideal S1024 .f32 :=
  shapeCast _ (select (okV t) (Host.gather gather_S1024x100000_S1024x1x1_S1024x1_n_1_0_0_1_2_11 l (idxV t))
    (broadcastInDim S1024x1 ![] bcast_S_S1024x1 (constant S_ .f32 0x7FC00000#32))) shapeCasts_S1024x1_S1024

/-- The reference's loss of the logits, the shifts and the target logits. -/
def lossV (l : FVec Ideal S1024x100000 .f32) (s g : FVec Ideal S1024 .f32) : FVec Ideal S_ .f32 :=
  Host.divf (Host.reduceAdd (subf (addf (Host.log (Host.reduceAdd (Host.exp (subf l
      (broadcastInDim S1024x100000 ![0, 1] bcast_S1024x1_S1024x100000_0_1 (broadcastInDim S1024x1 ![0] bcast_S1024_S1024x1_0 s))))
      (constant S_ .f32 0x00000000#32) reducesTo_S1024x100000_S1024_d1 h_S_)) s) g)
    (constant S_ .f32 0x00000000#32) reducesTo_S1024_S_d0 h_S_) (constant S_ .f32 0x44800000#32)

/-- The run's result is that loss of the arguments. -/
theorem res_eq (m : (ℓ : Loc nD τ sig) → Buf (Elt Ideal) ℓ) (c : Dev nD) :
    Value.res_main_v27 (F := Ideal) m c
      = lossV (lgt (m ((c.tc : Thread nD τ).loc main_arg0)) (m ((c.tc : Thread nD τ).loc main_arg2)))
          (shiftV (lgt (m ((c.tc : Thread nD τ).loc main_arg0)) (m ((c.tc : Thread nD τ).loc main_arg2))))
          (tgtV (lgt (m ((c.tc : Thread nD τ).loc main_arg0)) (m ((c.tc : Thread nD τ).loc main_arg2)))
            (m ((c.tc : Thread nD τ).loc main_arg1))) := rfl

/-- A logit: the normalised row against a row of the memory bank, over the temperature. -/
theorem lgt_ap (x : Vec Ideal S1024x64 .f32) (f : Vec Ideal S100000x64 .f32) (b : Fin 1024) (j : Fin 100000) :
    lgt x f (ix2 b j) = (∑ k : Fin 64, x (ix2 b k)
        * (max (Ideal.sqrt (∑ i : Fin 64, x (ix2 b i) * x (ix2 b i))) (Ideal.ofBits .f32 0x2B8CBCCC#32))⁻¹ * f (ix2 j k))
      * ((20 : ℝ) : EReal) := by
  pointwise [lgt]
  rw [twenty, div_temp]
  refine congrArg (fun z : EReal => z * ((20 : ℝ) : EReal)) (Finset.sum_congr rfl fun k _ => ?_)
  rw [Ideal.div, if_neg (lt_max_of_lt_right eps_pos).ne']

/-- The choice of a shift at a row. -/
theorem pick_ap (v : FVec Ideal S1024 .f32) (b : Fin 1024) :
    select (cmpf .olt (Host.absf v) (broadcastInDim S1024 ![] bcast_S_S1024 (constant S_ .f32 0x7F800000#32))) v
      (broadcastInDim S1024 ![] bcast_S_S1024 (id (constant S_ .f32 0x00000000#32))) (ix1 b)
    = Scalar.select (Ideal.cmp .olt (max (v (ix1 b)) (-(v (ix1 b)))) (Ideal.ofBits .f32 0x7F800000#32)) (v (ix1 b))
        (Ideal.ofBits .f32 0x00000000#32) := rfl

/-- A shift is a real number. -/
theorem shift_ap (l : FVec Ideal S1024x100000 .f32) (b : Fin 1024) : ∃ s : ℝ, shiftV l (ix1 b) = (s : EReal) := by
  obtain ⟨s, hs⟩ := shift_real (Host.reduce (FloatOps.maximumf (F := Ideal) (φ := .f32)) l
    (constant (F := Ideal) S_ .f32 0xFF800000#32) reducesTo_S1024x100000_S1024_d1 h_S_ (ix1 b))
  refine ⟨s, ?_⟩
  unfold shiftV
  rw [pick_ap, inf, Ideal.ofBits_zero_f32]
  exact hs

/-- A target in range is taken as it is. -/
theorem idx_ap (t : Vec Ideal S1024 .i32) (b : Fin 1024) (h : (t (ix1 b)).toNat < 100000) :
    idxV t (ix3 b 0 0) = t (ix1 b) := by
  pointwise [idxV]
  have e : IntOp.cmpi .slt (t (ix1 b)) 0#32 = 0#1 := by
    show BitVec.ofBool _ = BitVec.ofBool false
    congr 1
    rw [BitVec.slt, BitVec.toInt_eq_toNat_of_lt (by omega)]
    simp
  rw [e]
  rfl

/-- A target in range passes the bounds test. -/
theorem ok_ap (t : Vec Ideal S1024 .i32) (b : Fin 1024) (h : (t (ix1 b)).toNat < 100000) : okV t (ix2 b 0) = 1#1 := by
  pointwise [okV]
  have e1 : IntOp.cmpi .sge (t (ix1 b)) 0#32 = 1#1 := by
    show BitVec.ofBool _ = BitVec.ofBool true
    congr 1
    show BitVec.sle 0#32 (t (ix1 b)) = true
    rw [BitVec.sle, BitVec.toInt_eq_toNat_of_lt (x := t (ix1 b)) (by omega)]
    simp
  have e2 : IntOp.cmpi .sle (t (ix1 b)) 99999#32 = 1#1 := by
    show BitVec.ofBool _ = BitVec.ofBool true
    congr 1
    rw [BitVec.sle, BitVec.toInt_eq_toNat_of_lt (x := t (ix1 b)) (by omega)]
    simp only [decide_eq_true_eq]
    show ((t (ix1 b)).toNat : ℤ) ≤ 99999
    omega
  rw [Finset.univ_unique, Finset.fold_singleton]
  show IntOp.andi (IntOp.andi (IntOp.cmpi .sge (idxV t (ix3 b 0 0)) 0#32) (IntOp.cmpi .sle (idxV t (ix3 b 0 0)) 99999#32)) 1#1 = 1#1
  rw [idx_ap t b h, e1, e2]
  decide

/-- The gather along the rows at a start index in range. -/
theorem gather_ap (l : FVec Ideal S1024x100000 .f32) (idx : IVec S1024x1x1 32) (b : Fin 1024)
    (h : (idx (ix3 b 0 0)).toNat < 100000) :
    Host.gather gather_S1024x100000_S1024x1x1_S1024x1_n_1_0_0_1_2_11 l idx (ix2 b 0)
      = l (ix2 b ⟨(idx (ix3 b 0 0)).toNat, h⟩) := by
  unfold Host.gather
  refine congrArg l ?_
  funext a
  refine Fin.ext ?_
  have h01 : a = 0 ∨ a = 1 := by
    match a with
    | ⟨0, _⟩ => exact Or.inl rfl
    | ⟨1, _⟩ => exact Or.inr rfl
  show GatherDims.start _ _ idx a + GatherDims.batchCoord _ _ a + GatherDims.offCoord _ _ a = _
  rcases h01 with rfl | rfl
  · rw [GatherDims.start_batching _ _ _ _ (List.mem_singleton.mpr rfl),
      GatherDims.offCoord_eq_zero _ _ _ (fun hm => ((GatherDims.mem_sKept _ _).mp hm).2 (List.mem_singleton.mpr rfl))]
    simp only [Nat.zero_add, Nat.add_zero]
    unfold GatherDims.batchCoord
    rw [dif_pos (show (0 : Fin 2) ∈ gather_S1024x100000_S1024x1x1_S1024x1_n_1_0_0_1_2_11.operandBatchingDims from List.mem_singleton.mpr rfl)]
    rfl
  · rw [GatherDims.batchCoord_eq_zero _ _ _ (fun hm => absurd (List.mem_singleton.mp hm) (by decide)),
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ gather_S1024x100000_S1024x1x1_S1024x1_n_1_0_0_1_2_11.startIndexMap from List.mem_singleton.mpr rfl)]
    have hsi : ∀ hc, gather_S1024x100000_S1024x1x1_S1024x1_n_1_0_0_1_2_11.siIdx (ix2 b 0)
        ⟨List.idxOf (1 : Fin 2) gather_S1024x100000_S1024x1x1_S1024x1_n_1_0_0_1_2_11.startIndexMap, hc⟩ = ix3 b 0 0 := by
      intro hc
      funext a; refine Fin.ext ?_
      match a with
      | ⟨0, _⟩ => rfl
      | ⟨1, _⟩ => rfl
      | ⟨2, _⟩ => rfl
    rw [hsi, BitVec.toInt_eq_toNat_of_lt (by omega)]
    show min ((idx (ix3 b 0 0)).toNat : ℤ).toNat (100000 - 1) = (idx (ix3 b 0 0)).toNat
    rw [Int.toNat_natCast]
    omega

/-- A target in range has its logit taken. -/
theorem tgt_ap (l : FVec Ideal S1024x100000 .f32) (t : Vec Ideal S1024 .i32) (b : Fin 1024) (h : (t (ix1 b)).toNat < 100000) :
    tgtV l t (ix1 b) = l (ix2 b ⟨(t (ix1 b)).toNat, h⟩) := by
  pointwise [tgtV]
  rw [ok_ap t b h, gather_ap l _ b (by rw [idx_ap t b h]; exact h)]
  show l _ = _
  congr 2
  exact Fin.ext (congrArg BitVec.toNat (idx_ap t b h))

/-- The reference's loss: the mean of the rows' logarithms less their targets' logits, the shift at twenty. -/
theorem loss_ap (l : FVec Ideal S1024x100000 .f32) (t : Vec Ideal S1024 .i32) (j : S_.Idx)
    (h : ∀ b : Fin 1024, (t (ix1 b)).toNat < 100000) :
    lossV l (shiftV l) (tgtV l t) j
      = (∑ b : Fin 1024, ((Ideal.log (∑ j : Fin 100000, Ideal.exp (l (ix2 b j) - ((20 : ℝ) : EReal))) + ((20 : ℝ) : EReal))
          - l (ix2 b ⟨(t (ix1 b)).toNat, h b⟩))) * ((1 / 1024 : ℝ) : EReal) := by
  pointwise [lossV]
  rw [n1024, Ideal.div_coe (by norm_num)]
  refine congrArg (fun z : EReal => z * ((1 / 1024 : ℝ) : EReal)) (Finset.sum_congr rfl fun b _ => ?_)
  obtain ⟨s, hs⟩ := shift_ap l b
  rw [tgt_ap l t b (h b), hs, log_shift (fun j => l (ix2 b j)) s, zero_add]

end Cert.Proof.Ref
-- ==== Proof.Value.lean ====
/-
  The two programs' results over the extended reals are the same number.
-/
module

public import proofs.«01_k».proof.Proof.InRangeI
public import proofs.«01_k».proof.Proof.Loss
public import proofs.«01_k».proof.Proof.Ref
public import proofs.«01_k».proof.Proof.Gen.ReferenceIdeal

@[expose] public section

set_option maxRecDepth 16384

noncomputable section

namespace Cert.Proof.KernI

open Cert.KernelIdeal Cert.KernelIdeal.Gen Cert.Proof.Maths
open Idealize.ShloMosaic Idealize.ShloMosaic.TcCoe Idealize.SL.Sem

/-- The rows gathered from the memory bank's paired table hold, in the half of the target's parity, the target's row. -/
theorem gathered_ap (ft : Vec Ideal S100000x64 .f32) (t : IVec S1024 32) (b : Fin 1024) (k : Fin 64) (q : Fin 128)
    (h : (t (ix1 b)).toNat < 100000) (hq : q.val = 64 * ((t (ix1 b)).toNat % 2) + k.val) :
    gathered (F := Ideal) (shapeCast S50000x128 ft shapeCasts_S100000x64_S50000x128) (halves t) (ix2 b q)
      = ft (ix2 ⟨(t (ix1 b)).toNat, h⟩ k) := by
  have hi : idxIx ((ix2 b q : S1024x128.Idx) 0) = ix1 b := by
    funext a
    match a with
    | ⟨0, _⟩ => rfl
  unfold gathered
  rw [hi, halves_toNat t _ h]
  have ht : tabIx (Fin.ofNat 50000 ((t (ix1 b)).toNat / 2)) ((ix2 b q : S1024x128.Idx) 1)
      = ix2 ⟨(t (ix1 b)).toNat / 2, by omega⟩ q := by
    funext a
    match a with
    | ⟨0, _⟩ => exact Fin.ext (Nat.mod_eq_of_lt (by omega))
    | ⟨1, _⟩ => rfl
  rw [ht]
  pointwise
  refine congrArg ft ?_
  have hr : (t (ix1 b)).toNat / 2 * 2 + q.val / 64 = (t (ix1 b)).toNat := by omega
  have hc : q.val % 64 = k.val := by omega
  funext a
  match a with
  | ⟨0, _⟩ => exact Fin.ext hr
  | ⟨1, _⟩ => exact Fin.ext hc

variable (m : (ℓ : Loc nD τ sig) → Buf (Elt Ideal) ℓ)

/-- What the kernel stores, of its arguments. -/
theorem lossM_args (d : Dev nD) (w : Vec Ideal S4096x64 .f32) :
    lossM m d w = lossAt (F := Ideal) (m ((d.tc : Thread nD τ).loc main_arg0))
      (gathered (F := Ideal) (shapeCast S50000x128 (m ((d.tc : Thread nD τ).loc main_arg2) : Vec Ideal S100000x64 .f32)
        shapeCasts_S100000x64_S50000x128) (halves (m ((d.tc : Thread nD τ).loc main_arg1))))
      (shapeCast S1024x1 (m ((d.tc : Thread nD τ).loc main_arg1) : IVec S1024 32) shapeCasts_S1024_S1024x1)
      (m ((d.tc : Thread nD τ).loc main_arg2)) w := by
  have e0 : vx (Vw (Wc m)) d = m ((d.tc : Thread nD τ).loc main_arg0) :=
    (Wc_ne m d main_arg0 (by decide)).trans ((Wb_ne m d main_arg0 (by decide)).trans (ops1_arg0 _))
  have e1 : Wb m d main_arg1 = m ((d.tc : Thread nD τ).loc main_arg1) :=
    (Wb_ne m d main_arg1 (by decide)).trans (ops1_arg1 _)
  have e2 : vf (Vw (Wc m)) d = m ((d.tc : Thread nD τ).loc main_arg2) :=
    (Wc_ne m d main_arg2 (by decide)).trans ((Wb_ne m d main_arg2 (by decide)).trans (ops1_arg2 _))
  have e3 : vt (Vw (Wc m)) d
      = (shapeCast S1024x1 (m ((d.tc : Thread nD τ).loc main_arg1) : IVec S1024 32) shapeCasts_S1024_S1024x1 : IVec S1024x1 32) :=
    (Wc_v3 m d).trans (by rw [e1])
  have e4 : vg (Vw (Wc m)) d
      = gathered (F := Ideal) (shapeCast S50000x128 (m ((d.tc : Thread nD τ).loc main_arg2) : Vec Ideal S100000x64 .f32)
        shapeCasts_S100000x64_S50000x128) (halves (m ((d.tc : Thread nD τ).loc main_arg1))) := by
    refine (Wc_ne m d main_v2 (by decide)).trans ((Wb_v2 m d).trans ?_)
    show gathered (F := Ideal) (tabM m d) (idxM m d) = _
    rw [show tabM m d = _ from ops1_v0 _, show idxM m d = _ from ops1_v1 _]
  unfold lossM
  rw [e0, e2, e3, e4]

/-- The kernel's loss of its arguments, with every target in range: the mean, over the rows, of the logarithm of the
    sum of the exponentials of the row's logits less the logit of the row's target. -/
theorem lossM_ap (d : Dev nD) (w : Vec Ideal S4096x64 .f32)
    (h : ∀ b : Fin 1024, ((m ((d.tc : Thread nD τ).loc main_arg1) : IVec S1024 32) (ix1 b)).toNat < 100000) :
    lossM m d w
      = (∑ b : Fin 1024, ((Ideal.log (∑ j : Fin 100000, Ideal.exp (logit (m ((d.tc : Thread nD τ).loc main_arg0))
            (m ((d.tc : Thread nD τ).loc main_arg2)) b j - ((20 : ℝ) : EReal))) + ((20 : ℝ) : EReal))
          - logit (m ((d.tc : Thread nD τ).loc main_arg0)) (m ((d.tc : Thread nD τ).loc main_arg2)) b
              ⟨((m ((d.tc : Thread nD τ).loc main_arg1) : IVec S1024 32) (ix1 b)).toNat, h b⟩)) * ((1 / 1024 : ℝ) : EReal) := by
  rw [lossM_args]
  generalize (m ((d.tc : Thread nD τ).loc main_arg1) : IVec S1024 32) = t at h ⊢
  have ht : ∀ b : Fin 1024, shapeCast S1024x1 t shapeCasts_S1024_S1024x1 (ix2 b 0) = t (ix1 b) := fun b => by pointwise
  refine (lossAt_ap _ _ _ _ w (fun b => by rw [ht b]; exact h b) fun b k q hq => ?_).trans ?_
  · have hq' : q.val = 64 * ((t (ix1 b)).toNat % 2) + k.val := by rw [← ht b]; exact hq
    refine (gathered_ap _ t b k q (h b) hq').trans (congrArg _ ?_)
    exact congrArg (fun r : Fin 100000 => (ix2 r k : S100000x64.Idx)) (Fin.ext (congrArg BitVec.toNat (ht b).symm))
  · refine congrArg (fun z : EReal => z * ((1 / 1024 : ℝ) : EReal)) (Finset.sum_congr rfl fun b _ => ?_)
    refine congrArg (fun r : Fin 100000 => Ideal.log (∑ j : Fin 100000, Ideal.exp (logit (m ((d.tc : Thread nD τ).loc main_arg0))
            (m ((d.tc : Thread nD τ).loc main_arg2)) b j - ((20 : ℝ) : EReal))) + ((20 : ℝ) : EReal)
          - logit (m ((d.tc : Thread nD τ).loc main_arg0)) (m ((d.tc : Thread nD τ).loc main_arg2)) b r)
      (Fin.ext (congrArg BitVec.toNat (ht b)))

end Cert.Proof.KernI

namespace Cert.Proof

open Idealize.ShloMosaic Idealize.ShloMosaic.TcCoe Idealize.SL.Sem

/-- The reference's logits are the kernel's. -/
theorem logit_eq (x : Vec Ideal Cert.KernelIdeal.S1024x64 .f32) (f : Vec Ideal Cert.KernelIdeal.S100000x64 .f32)
    (b : Fin 1024) (j : Fin 100000) : Ref.lgt x f (ix2 b j) = KernI.logit x f b j := Ref.lgt_ap x f b j

/-- The reference's loss is the kernel's, whatever lies behind the memory bank in the last block. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (w : Vec Ideal Cert.KernelIdeal.S4096x64 .f32)
    (h : ∀ b : Fin 1024, ((m ((c.tc : Thread Cert.KernelIdeal.nD Cert.KernelIdeal.τ).loc Cert.KernelIdeal.main_arg1)
      : IVec Cert.KernelIdeal.S1024 32) (ix1 b)).toNat < 100000)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (j : Cert.ReferenceIdeal.S_.Idx) :
    (Cert.ReferenceIdeal.Value.res_main_v27 (F := Ideal) m' c : FVec Ideal Cert.ReferenceIdeal.S_ .f32) j = KernI.lossM m c w := by
  rw [Ref.res_eq, KernI.lossM_ap m c w h, h0, h1, h2]
  refine (Ref.loss_ap _ _ j h).trans ?_
  refine congrArg (fun z : EReal => z * ((1 / 1024 : ℝ) : EReal)) (Finset.sum_congr rfl fun b _ => ?_)
  simp only [logit_eq]

/-- From arguments that agree and targets in range, the kernel and the reference end with the same loss. -/
theorem algebraic : Cert.algebraic_KernelIdeal_ReferenceIdeal := by
  intro m g m' g' hpre hag
  have hr : ∀ (c : Dev Cert.KernelIdeal.nD) (b : Fin 1024),
      ((m ((c.tc : Thread Cert.KernelIdeal.nD Cert.KernelIdeal.τ).loc Cert.KernelIdeal.main_arg1)
        : IVec Cert.KernelIdeal.S1024 32) (ix1 b)).toNat < 100000 := fun c b => KernI.lt_of_pre _ _ _ (hpre c) (ix1 b)
  refine ⟨fun c => Cert.ReferenceIdeal.Value.res_main_v27 (F := Ideal) m' c,
    (θ_run Cert.KernelIdeal.defs _ _).mono (fun r h c => ?_) (KernI.run_main (F := Ideal) m g (KernI.list_ok m hpre)),
    Cert.ReferenceIdeal.Value.run (F := Ideal) m' g'⟩
  obtain ⟨⟨w, hw⟩, hargs⟩ := h.1 c
  refine ⟨hw.trans (funext fun j => ?_), hargs⟩
  exact (result_eq m m' c w (hr c) (hag c).1 (hag c).2.1 (hag c).2.2 j).symm

end Cert.Proof
-- ==== Proof.lean ====
/-
  The certificate: the claims of Defs.lean, put together.
-/
module

public import proofs.«01_k».proof.Proof.Claims
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_range.Gen.facts,
    Kern.frame, KernI.frame, frame_reference, fun m ρ _ => frame_reference m ρ trivial, preserves, algebraic⟩

end Cert.Proof

end
